-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_norm_weights_are_one [hPre_norm_weights_are_one : Cert.Pre_norm_weights_are_one.Facts] (m : (ℓ : Loc Cert.KernelIdeal.nD Cert.KernelIdeal.τ Cert.KernelIdeal.sig) → Buf (Elt Ideal) ℓ) : Prop :=
  ∀ c : Dev Cert.KernelIdeal.nD,
    (Cert.Pre_norm_weights_are_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_norm_weights_are_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_norm_weights_are_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_norm_weights_are_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_norm_weights_are_one [hPre_norm_weights_are_one : Cert.Pre_norm_weights_are_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_norm_weights_are_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_norm_weights_are_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_norm_weights_are_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_norm_weights_are_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_norm_weights_are_one [hKernelIdeal : Cert.KernelIdeal.Facts] [hPre_norm_weights_are_one : Cert.Pre_norm_weights_are_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_norm_weights_are_one m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_norm_weights_are_one [hReferenceIdeal : Cert.ReferenceIdeal.Facts] [hPre_norm_weights_are_one : Cert.Pre_norm_weights_are_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_norm_weights_are_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "inv_fp8_max" .f32 0x3B124925#32 ((1 / 448 : ℝ) : EReal)

def algebraic_KernelIdeal_ReferenceIdeal_pre_norm_weights_are_one [hKernelIdeal : Cert.KernelIdeal.Facts] [hReferenceIdeal : Cert.ReferenceIdeal.Facts] [hPre_norm_weights_are_one : Cert.Pre_norm_weights_are_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_norm_weights_are_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_norm_weights_are_one : Cert.Pre_norm_weights_are_one.Facts),
    quiescent_Kernel (hKernel := hKernel)
    ∧ quiescent_KernelIdeal (hKernelIdeal := hKernelIdeal)
    ∧ quiescent_KernelIdeal_pre_norm_weights_are_one (hKernelIdeal := hKernelIdeal) (hPre_norm_weights_are_one := hPre_norm_weights_are_one)
    ∧ quiescent_ReferenceIdeal (hReferenceIdeal := hReferenceIdeal)
    ∧ quiescent_ReferenceIdeal_pre_norm_weights_are_one (hReferenceIdeal := hReferenceIdeal) (hPre_norm_weights_are_one := hPre_norm_weights_are_one)
    ∧ preserves_Kernel_KernelIdeal
    ∧ algebraic_KernelIdeal_ReferenceIdeal_pre_norm_weights_are_one (hKernelIdeal := hKernelIdeal) (hReferenceIdeal := hReferenceIdeal) (hPre_norm_weights_are_one := hPre_norm_weights_are_one)
-- ==== Pre_norm_weights_are_one.lean ====
abbrev S8192x4096 : Shape := ⟨2, ![8192, 4096]⟩
abbrev S4096x4096 : Shape := ⟨2, ![4096, 4096]⟩
abbrev S32x32 : Shape := ⟨2, ![32, 32]⟩
abbrev S4096 : Shape := ⟨1, ![4096]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : FVec F S8192x4096 .f32) (main_arg1 : FVec F S4096x4096 .f32) (main_arg2 : FVec F S4096x4096 .f32) (main_arg3 : FVec F S4096x4096 .f32) (main_arg4 : FVec F S32x32 .f32) (main_arg5 : FVec F S32x32 .f32) (main_arg6 : FVec F S32x32 .f32) (main_arg7 : FVec F S4096 .f32) (main_arg8 : FVec F S4096 .f32) (main_arg9 : FVec F S4096 .f32) (main_arg10 : FVec F S4096 .f32) : IVec S4096 1 × IVec S4096 1 × IVec S4096 1 × IVec S4096 1 :=
  let main_cst : FVec F S_ .f32 := constant S_ .f32 0x3F800000#32
  let main_v0 : FVec F S4096 .f32 := broadcastInDim S4096 ![] bcast_S_S4096 main_cst
  let main_v1 : IVec S4096 1 := cmpf .oeq main_arg7 main_v0
  let main_cst_0 : FVec F S_ .f32 := constant S_ .f32 0x3F800000#32
  let main_v2 : FVec F S4096 .f32 := broadcastInDim S4096 ![] bcast_S_S4096 main_cst_0
  let main_v3 : IVec S4096 1 := cmpf .oeq main_arg8 main_v2
  let main_cst_1 : FVec F S_ .f32 := constant S_ .f32 0x3F800000#32
  let main_v4 : FVec F S4096 .f32 := broadcastInDim S4096 ![] bcast_S_S4096 main_cst_1
  let main_v5 : IVec S4096 1 := cmpf .oeq main_arg9 main_v4
  let main_cst_2 : FVec F S_ .f32 := constant S_ .f32 0x3F800000#32
  let main_v6 : FVec F S4096 .f32 := broadcastInDim S4096 ![] bcast_S_S4096 main_cst_2
  let main_v7 : IVec S4096 1 := cmpf .oeq main_arg10 main_v6
  (main_v1, main_v3, main_v5, main_v7)
-- ==== Kernel.lean ====
abbrev S8192x4096 : Shape := ⟨2, ![8192, 4096]⟩
abbrev S4096x4096 : Shape := ⟨2, ![4096, 4096]⟩
abbrev S32x32 : Shape := ⟨2, ![32, 32]⟩
abbrev S4096 : Shape := ⟨1, ![4096]⟩
abbrev S32x32x128 : Shape := ⟨3, ![32, 32, 128]⟩
abbrev S32x4096 : Shape := ⟨2, ![32, 4096]⟩
abbrev S32x1x4096 : Shape := ⟨3, ![32, 1, 4096]⟩
abbrev S128x4096 : Shape := ⟨2, ![128, 4096]⟩
abbrev S1x1x4096 : Shape := ⟨3, ![1, 1, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S256x128 : Shape := ⟨2, ![256, 128]⟩

abbrev nBuf : Space → Nat
  | .hbm => 29
  | .vmem => 36
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S32x32, .f32⟩
  | .hbm, ⟨5, _⟩ => ⟨S32x32, .f32⟩
  | .hbm, ⟨6, _⟩ => ⟨S32x32, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S4096x4096, .fp8e4m3⟩
  | .hbm, ⟨12, _⟩ => ⟨S32x32x128, .f32⟩
  | .hbm, ⟨13, _⟩ => ⟨S32x4096, .f32⟩
  | .hbm, ⟨14, _⟩ => ⟨S32x1x4096, .f32⟩
  | .hbm, ⟨15, _⟩ => ⟨S4096x4096, .bf16⟩
  | .hbm, ⟨16, _⟩ => ⟨S4096x4096, .fp8e4m3⟩
  | .hbm, ⟨17, _⟩ => ⟨S32x32x128, .f32⟩
  | .hbm, ⟨18, _⟩ => ⟨S32x4096, .f32⟩
  | .hbm, ⟨19, _⟩ => ⟨S32x1x4096, .f32⟩
  | .hbm, ⟨20, _⟩ => ⟨S4096x4096, .bf16⟩
  | .hbm, ⟨21, _⟩ => ⟨S4096x4096, .fp8e4m3⟩
  | .hbm, ⟨22, _⟩ => ⟨S32x32x128, .f32⟩
  | .hbm, ⟨23, _⟩ => ⟨S32x4096, .f32⟩
  | .hbm, ⟨24, _⟩ => ⟨S32x1x4096, .f32⟩
  | .hbm, ⟨25, _⟩ => ⟨S4096x4096, .bf16⟩
  | .hbm, ⟨26, _⟩ => ⟨S8192x4096, .f32⟩
  | .hbm, ⟨27, _⟩ => ⟨S8192x4096, .f32⟩
  | .hbm, ⟨28, _⟩ => ⟨S8192x4096, .f32⟩
  | .local _ .vmem, ⟨0, _⟩ => ⟨S128x4096, .fp8e4m3⟩
  | .local _ .vmem, ⟨1, _⟩ => ⟨S128x4096, .fp8e4m3⟩
  | .local _ .vmem, ⟨2, _⟩ => ⟨S1x1x4096, .f32⟩
  | .local _ .vmem, ⟨3, _⟩ => ⟨S1x1x4096, .f32⟩
  | .local _ .vmem, ⟨4, _⟩ => ⟨S128x4096, .bf16⟩
  | .local _ .vmem, ⟨5, _⟩ => ⟨S128x4096, .bf16⟩
  | .local _ .vmem, ⟨6, _⟩ => ⟨S128x4096, .fp8e4m3⟩
  | .local _ .vmem, ⟨7, _⟩ => ⟨S128x4096, .fp8e4m3⟩
  | .local _ .vmem, ⟨8, _⟩ => ⟨S1x1x4096, .f32⟩
  | .local _ .vmem, ⟨9, _⟩ => ⟨S1x1x4096, .f32⟩
  | .local _ .vmem, ⟨10, _⟩ => ⟨S128x4096, .bf16⟩
  | .local _ .vmem, ⟨11, _⟩ => ⟨S128x4096, .bf16⟩
  | .local _ .vmem, ⟨12, _⟩ => ⟨S128x4096, .fp8e4m3⟩
  | .local _ .vmem, ⟨13, _⟩ => ⟨S128x4096, .fp8e4m3⟩
  | .local _ .vmem, ⟨14, _⟩ => ⟨S1x1x4096, .f32⟩
  | .local _ .vmem, ⟨15, _⟩ => ⟨S1x1x4096, .f32⟩
  | .local _ .vmem, ⟨16, _⟩ => ⟨S128x4096, .bf16⟩
  | .local _ .vmem, ⟨17, _⟩ => ⟨S128x4096, .bf16⟩
  | .local _ .vmem, ⟨18, _⟩ => ⟨S256x4096, .f32⟩
  | .local _ .vmem, ⟨19, _⟩ => ⟨S256x4096, .f32⟩
  | .local _ .vmem, ⟨20, _⟩ => ⟨S4096x4096, .bf16⟩
  | .local _ .vmem, ⟨21, _⟩ => ⟨S256x4096, .f32⟩
  | .local _ .vmem, ⟨22, _⟩ => ⟨S256x4096, .f32⟩
  | .local _ .vmem, ⟨23, _⟩ => ⟨S256x4096, .bf16⟩
  | .local _ .vmem, ⟨24, _⟩ => ⟨S256x4096, .f32⟩
  | .local _ .vmem, ⟨25, _⟩ => ⟨S256x4096, .f32⟩
  | .local _ .vmem, ⟨26, _⟩ => ⟨S4096x4096, .bf16⟩
  | .local _ .vmem, ⟨27, _⟩ => ⟨S256x4096, .f32⟩
  | .local _ .vmem, ⟨28, _⟩ => ⟨S256x4096, .f32⟩
  | .local _ .vmem, ⟨29, _⟩ => ⟨S256x4096, .bf16⟩
  | .local _ .vmem, ⟨30, _⟩ => ⟨S256x4096, .f32⟩
  | .local _ .vmem, ⟨31, _⟩ => ⟨S256x4096, .f32⟩
  | .local _ .vmem, ⟨32, _⟩ => ⟨S4096x4096, .bf16⟩
  | .local _ .vmem, ⟨33, _⟩ => ⟨S256x4096, .f32⟩
  | .local _ .vmem, ⟨34, _⟩ => ⟨S256x4096, .f32⟩
  | .local _ .vmem, ⟨35, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc3_scratch0 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc4_scratch0 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg2_1 : Ref sig .tc := ⟨.vmem, 34, rfl⟩
abbrev cc5_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x4096 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x4096 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x4096 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x4096 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4096x4096 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x4096 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x4096 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S4096x4096 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S256x4096 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]
-- ==== KernelIdeal.lean ====
variable {F : FTy → Type} [FloatOps F] [Named F]
def κ : String → Option EReal := fun
  | "inv_fp8_max" => some ((1 / 448 : ℝ) : EReal)
  | _ => none
-- ==== ReferenceIdeal.lean ====
abbrev S8192x4096 : Shape := ⟨2, ![8192, 4096]⟩
abbrev S4096x4096 : Shape := ⟨2, ![4096, 4096]⟩
abbrev S32x32 : Shape := ⟨2, ![32, 32]⟩
abbrev S4096 : Shape := ⟨1, ![4096]⟩
abbrev S8192 : Shape := ⟨1, ![8192]⟩
abbrev S8192x1 : Shape := ⟨2, ![8192, 1]⟩
abbrev S1x4096 : Shape := ⟨2, ![1, 4096]⟩
abbrev S8192x32x128 : Shape := ⟨3, ![8192, 32, 128]⟩
abbrev S8192x32 : Shape := ⟨2, ![8192, 32]⟩
abbrev S8192x32x1 : Shape := ⟨3, ![8192, 32, 1]⟩
abbrev S32x1x32 : Shape := ⟨3, ![32, 1, 32]⟩
abbrev S32x128x32 : Shape := ⟨3, ![32, 128, 32]⟩
abbrev S4096x32 : Shape := ⟨2, ![4096, 32]⟩
abbrev S4096x32x1 : Shape := ⟨3, ![4096, 32, 1]⟩
abbrev S4096x32x128 : Shape := ⟨3, ![4096, 32, 128]⟩

abbrev nBuf : Space → Nat
  | .hbm => 12
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S32x32, .f32⟩
  | .hbm, ⟨5, _⟩ => ⟨S32x32, .f32⟩
  | .hbm, ⟨6, _⟩ => ⟨S32x32, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S8192x4096, .f32⟩
  | .local _ .vmem, ⟨0, _⟩ => ⟨S8192x4096, .f32⟩
  | .local _ .vmem, ⟨1, _⟩ => ⟨S4096x4096, .f32⟩
  | .local _ .vmem, ⟨2, _⟩ => ⟨S4096x4096, .f32⟩
  | .local _ .vmem, ⟨3, _⟩ => ⟨S4096x4096, .f32⟩
  | .local _ .vmem, ⟨4, _⟩ => ⟨S32x32, .f32⟩
  | .local _ .vmem, ⟨5, _⟩ => ⟨S32x32, .f32⟩
  | .local _ .vmem, ⟨6, _⟩ => ⟨S32x32, .f32⟩
  | .local _ .vmem, ⟨7, _⟩ => ⟨S4096, .f32⟩
  | .local _ .vmem, ⟨8, _⟩ => ⟨S4096, .f32⟩
  | .local _ .vmem, ⟨9, _⟩ => ⟨S4096, .f32⟩
  | .local _ .vmem, ⟨10, _⟩ => ⟨S4096, .f32⟩
  | .local _ .vmem, ⟨11, _⟩ => ⟨S8192x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S8192x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8192x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Spec.lean ====
/- The mathematics both programs compute, over the extended reals, one row at a time, and the literals they print. -/
module

public import Idealize.ShloMosaic.Lib.Pointwise

@[expose] public section

noncomputable section

namespace Cert.Spec

open Idealize.ShloMosaic

/-- A row of 4096 numbers. -/
abbrev Row : Type := Fin 4096 → EReal

/-- The literal that keeps a mean square away from zero. -/
def eps : EReal := Ideal.ofBits .f32 0x358637BD#32
/-- The least magnitude a group is scaled by. -/
def floorMag : EReal := Ideal.ofBits .f32 0x38D1B717#32
/-- The value a row maximum starts from. -/
def start : EReal := Ideal.ofBits .f32 0xFF800000#32

/-- The group of 128 columns that column `c` lies in. -/
def grp (c : Fin 4096) : Fin 32 := ⟨c.val / 128, by omega⟩
/-- Column `j` of group `g`. -/
def col (g : Fin 32) (j : Fin 128) : Fin 4096 := ⟨128 * g.val + j.val, by omega⟩

/-- The reciprocal root of a row's mean square. -/
def rs (x : Row) : EReal := Ideal.rsqrt ((∑ k, x k * x k) * ((1 / 4096 : ℝ) : EReal) + eps)
/-- The row divided by the root of its mean square. -/
def norm (x : Row) : Row := fun c => x c * rs x
/-- A number's magnitude. -/
def mag (x : EReal) : EReal := max x (-x)
/-- The greatest magnitude in group `g` of a row. -/
def amax (y : Row) (g : Fin 32) : EReal := Finset.univ.fold max start fun j => mag (y (col g j))
/-- The scale of group `g` of a row. -/
def scale (y : Row) (g : Fin 32) : EReal := max (amax y g) floorMag * ((1 / 448 : ℝ) : EReal)
/-- A row scaled down group by group and back up. -/
def requant (y : Row) : Row := fun c => Ideal.div (y c) (scale y (grp c)) * scale y (grp c)
/-- One residual layer on a row: the row plus the requantised normalised row times the weights. -/
def layer (x : Row) (w : Fin 4096 → Row) : Row := fun c => x c + ∑ k, requant (norm x) k * w k c
/-- The positive part of a row. -/
def relu (x : Row) : Row := fun c => max (x c) 0
/-- A weight matrix times its 128 by 128 block scales. -/
def weight (w : Fin 4096 → Row) (s : Fin 32 → Fin 32 → EReal) : Fin 4096 → Row := fun k c => w k c * s (grp k) (grp c)

end Cert.Spec

end

end
-- ==== Proof.Consts.lean ====
/- The float literals of the two programs as real numbers. -/
module

public import Idealize.ShloMosaic.Lib.Pointwise
public import proofs.«01_k».proof.Proof.Gen.KernelIdeal
public import proofs.«01_k».proof.Proof.Spec

@[expose] public section

noncomputable section

namespace Cert.Spec

open Idealize.ShloMosaic

/-- The reference's divisor of a group's magnitude is 448. -/
theorem ofBits_448 : Ideal.ofBits .f32 0x43E00000#32 = ((448 : ℝ) : EReal) := by
  simp [Ideal.ofBits, Ideal.ieee, -EReal.coe_mul]; norm_num

/-- The reference's divisor of a sum of squares is 4096. -/
theorem ofBits_4096 : Ideal.ofBits .f32 0x45800000#32 = ((4096 : ℝ) : EReal) := by
  simp [Ideal.ofBits, Ideal.ieee, -EReal.coe_mul]; norm_num

/-- The kernel's factor of a sum of squares is 1/4096. -/
theorem ofBits_inv4096 : Ideal.ofBits .f32 0x39800000#32 = ((1 / 4096 : ℝ) : EReal) := by
  simp [Ideal.ofBits, Ideal.ieee, -EReal.coe_mul]; norm_num

/-- The kernel's named factor of a group's magnitude is 1/448. -/
theorem named_inv448 :
    Named.named (F := Ideal) (φ := .f32) Cert.KernelIdeal.κ "inv_fp8_max" 0x3B124925#32 = ((1 / 448 : ℝ) : EReal) :=
  IdealRules.named_const.ideal_named_scalar _ _ _ _ rfl

/-- Dividing a sum of squares by 4096 is multiplying it by 1/4096. -/
theorem div_4096 (s : EReal) : Ideal.div s (Ideal.ofBits .f32 0x45800000#32) = s * ((1 / 4096 : ℝ) : EReal) := by
  rw [ofBits_4096, Ideal.div_coe (by norm_num)]

/-- Dividing a group's magnitude by 448 is multiplying it by 1/448. -/
theorem div_448 (s : EReal) : Ideal.div s (Ideal.ofBits .f32 0x43E00000#32) = s * ((1 / 448 : ℝ) : EReal) := by
  rw [ofBits_448, Ideal.div_coe (by norm_num)]

end Cert.Spec

end

end
-- ==== Proof.Piece.lean ====
/- What one block of 256 rows computes: a group of 128 columns of the requantised rows, the layer's block, and the
   normalised block. -/
module

public import Idealize.ShloMosaic.Lib.Pointwise
public import proofs.«01_k».proof.Proof.Gen.KernelIdeal
public import proofs.«01_k».proof.Proof.Gen.KernelIdeal.Skeleton
public import proofs.«01_k».proof.Proof.Consts

@[expose] public section

noncomputable section

namespace Cert.KernelIdeal.Block

open Idealize.ShloMosaic Cert.KernelIdeal Cert.KernelIdeal.Gen

variable {F : FTy → Type} [FloatOps F] [Named F]

/-- The reciprocal root mean square of every row of a block. -/
def rootOf (x : FVec F S256x4096 .f32) : FVec F S256x1 .f32 :=
  rsqrt (addf (mulf (shapeCast S256x1 (multiReduction .add [1] S256 (mulf x x) 0x00000000#32 reduces_S256x4096_S256 (.inl rfl) rfl)
    shapeCasts_S256_S256x1) (broadcast S256x1 (Scalar.ofBits .f32 0x39800000#32))) (broadcast S256x1 (Scalar.ofBits .f32 0x358637BD#32)))

/-- The scale of every row of a group of columns. -/
def scaleOf (y : FVec F S256x128 .f32) : FVec F S256x1 .f32 :=
  mulf (maximumf (shapeCast S256x1 (multiReduction .maximumf [1] S256 (absf y) 0xFF800000#32 reduces_S256x128_S256 (.inl rfl) rfl)
    shapeCasts_S256_S256x1) (broadcast S256x1 (Scalar.ofBits .f32 0x38D1B717#32))) (broadcast S256x1 (Named.named κ "inv_fp8_max" 0x3B124925#32))

/-- The group of 128 columns from column `o`, requantised. -/
def piece (o : Nat) (h : S256x4096.Slices ![0, o] S256x128) (x : FVec F S256x4096 .f32) (v : FVec F S256x1 .f32) : FVec F S256x128 .bf16 :=
  have y : FVec F S256x128 .f32 := mulf (extractStridedSlice S256x128 ![0, o] x h) (broadcastTo S256x128 v broadcasts_S256x1_S256x128)
  have b : FVec F S256x128 .f32 := broadcastTo S256x128 (scaleOf y) broadcasts_S256x1_S256x128
  shapeCast S256x128 (truncf .bf16 (mulf (extf .f32 (truncf .fp8e4m3 (divf y b) bitsLt_fp8e4m3_f32) bitsLt_fp8e4m3_f32) b) bitsLt_bf16_f32)
    shapeCasts_S256x128_S256x128

/-- Row `r` of a block. -/
def rowOf (x : FVec Ideal S256x4096 .f32) (r : Fin 256) : Cert.Spec.Row := fun c => x (ix2 r c)

theorem rootOf_apply (x : FVec Ideal S256x4096 .f32) (r : Fin 256) : rootOf x (ix2 r 0) = Cert.Spec.rs (rowOf x r) := by
  pointwise [rootOf]
  rw [Cert.Spec.ofBits_inv4096]
  rfl

theorem piece_apply (g : Fin 32) (o : Nat) (ho : o = 128 * g.val) (h) (x : FVec Ideal S256x4096 .f32) (r : Fin 256) (j : Fin 128) :
    piece o h x (rootOf x) (ix2 r j) = Cert.Spec.requant (Cert.Spec.norm (rowOf x r)) (Cert.Spec.col g j) := by
  subst ho
  have hg : Cert.Spec.grp (Cert.Spec.col g j) = g := Fin.ext (by show (128 * g.val + j.val) / 128 = g.val; omega)
  unfold Cert.Spec.requant
  rw [hg]
  pointwise [piece, scaleOf]
  rw [rootOf_apply, Cert.Spec.named_inv448]
  rfl

/-- A block with every row normalised and requantised. -/
def quantBlock (x : FVec Ideal S256x4096 .f32) : FVec Ideal S256x4096 .bf16 :=
  fun y => Cert.Spec.requant (Cert.Spec.norm (rowOf x (y 0))) (y 1)

/-- A payload that is the group from column `o = 128 g` stores that part of the requantised block. -/
theorem piece_at (g : Fin 32) (o : Nat) (ho : o = 128 * g.val) (h : S256x4096.Slices ![0, o] S256x128) (x : FVec Ideal S256x4096 .f32)
    (inb : ∀ a, (![0, o] : Fin S256x4096.rank → Nat) a + S256x128.size a ≤ S256x4096.size a) (pay : FVec Ideal S256x128 .bf16)
    (hp : pay = piece o h x (rootOf x)) (j : S256x128.Idx) :
    pay j = quantBlock x ((Rect.unit (s := S256x4096) ![0, o] S256x128.size inb).emb j) := by
  obtain ⟨r, l, rfl⟩ : ∃ (r : Fin 256) (l : Fin 128), j = ix2 r l := ⟨j 0, j 1, eq_ix2 j⟩
  rw [hp, piece_apply g o ho h x]
  unfold quantBlock
  have e0 : ((Rect.unit (s := S256x4096) ![0, o] S256x128.size inb).emb (ix2 r l)) 0 = r :=
    Fin.ext (by show 0 + 1 * r.val = r.val; omega)
  have e1 : ((Rect.unit (s := S256x4096) ![0, o] S256x128.size inb).emb (ix2 r l)) 1 = Cert.Spec.col g l :=
    Fin.ext (by show o + 1 * l.val = 128 * g.val + l.val; omega)
  rw [e0, e1]

/-- The positive part of a block. -/
def posBlock (x : FVec Ideal S256x4096 .f32) : FVec Ideal S256x4096 .f32 := fun y => Cert.Spec.relu (rowOf x (y 0)) (y 1)
/-- The layer of every row of a block. -/
def layerBlock (x : FVec Ideal S256x4096 .f32) (w : FVec Ideal S4096x4096 .bf16) : FVec Ideal S256x4096 .f32 :=
  fun y => Cert.Spec.layer (rowOf x (y 0)) (fun k c => w (ix2 k c)) (y 1)
/-- Every row of a block normalised. -/
def normBlock (x : FVec Ideal S256x4096 .f32) : FVec Ideal S256x4096 .f32 := fun y => Cert.Spec.norm (rowOf x (y 0)) (y 1)

end Cert.KernelIdeal.Block

end

end
-- ==== Proof.Stage3.lean ====
/- What the body of stage region 3 leaves in its result block. -/
module

public import Idealize.ShloMosaic.Lib.Pipeline.ValueKit
public import Idealize.ShloMosaic.Lib.Pipeline.ReadBack
public import proofs.«01_k».proof.Proof.Gen.KernelIdeal.Frame
public import proofs.«01_k».proof.Proof.Piece

@[expose] public section

noncomputable section

namespace Cert.KernelIdeal.Stage3

open Idealize.ShloMosaic Cert.KernelIdeal Cert.KernelIdeal.Gen Cert.KernelIdeal.Block
open Idealize.ShloMosaic.TcCoe

/-- The scratch read before the product holds the requantised rows of the block. -/
theorem scratch_eq (c : Dev nD) (arg1 : Memref sig .tc .vmem S256x4096 .f32) (harg1 : arg1.IsWhole) (arg4 : Memref sig .tc .vmem S256x4096 .bf16)
    (x0 : Vec Ideal S256x4096 .f32) : kernelRun3_A.sl.v651 (F := Ideal) c arg1 harg1 arg4 x0 = quantBlock (k3_pay3 x0) := by
  unfold kernelRun3_A.sl.v651
  sl_unfold_words
  simp only [View.readAt_eq_ld, harg1.read_unread]
  have hz : (![0, 0] : Fin S256x4096.rank → Nat) = fun _ => 0 := funext fun a => by fin_cases a <;> rfl
  simp only [View.ld_unit_zero (S := S256x4096) hz]
  rw [View.readCov_eq_canon']
  refine Eq.trans ?_ (View.ld_unit_zero (S := S256x4096) (Val := Elt Ideal) (e := .bf16) hz inb_S256x4096_S256x4096_0_0 (quantBlock (k3_pay3 x0)))
  funext y
  refine View.canon_apply_of_pieces (Val := Elt Ideal) (e := .bf16) (quantBlock (k3_pay3 x0)) _ (View.PiecesOf.mem ?_) _ ?_
  · refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
    · exact piece_at 31 3968 rfl slices_S256x4096_o0_3968_S256x128 (k3_pay3 x0) inb_S256x4096_S256x128_0_3968 _ rfl
    · exact piece_at 30 3840 rfl slices_S256x4096_o0_3840_S256x128 (k3_pay3 x0) inb_S256x4096_S256x128_0_3840 _ rfl
    · exact piece_at 29 3712 rfl slices_S256x4096_o0_3712_S256x128 (k3_pay3 x0) inb_S256x4096_S256x128_0_3712 _ rfl
    · exact piece_at 28 3584 rfl slices_S256x4096_o0_3584_S256x128 (k3_pay3 x0) inb_S256x4096_S256x128_0_3584 _ rfl
    · exact piece_at 27 3456 rfl slices_S256x4096_o0_3456_S256x128 (k3_pay3 x0) inb_S256x4096_S256x128_0_3456 _ rfl
    · exact piece_at 26 3328 rfl slices_S256x4096_o0_3328_S256x128 (k3_pay3 x0) inb_S256x4096_S256x128_0_3328 _ rfl
    · exact piece_at 25 3200 rfl slices_S256x4096_o0_3200_S256x128 (k3_pay3 x0) inb_S256x4096_S256x128_0_3200 _ rfl
    · exact piece_at 24 3072 rfl slices_S256x4096_o0_3072_S256x128 (k3_pay3 x0) inb_S256x4096_S256x128_0_3072 _ rfl
    · exact piece_at 23 2944 rfl slices_S256x4096_o0_2944_S256x128 (k3_pay3 x0) inb_S256x4096_S256x128_0_2944 _ rfl
    · exact piece_at 22 2816 rfl slices_S256x4096_o0_2816_S256x128 (k3_pay3 x0) inb_S256x4096_S256x128_0_2816 _ rfl
    · exact piece_at 21 2688 rfl slices_S256x4096_o0_2688_S256x128 (k3_pay3 x0) inb_S256x4096_S256x128_0_2688 _ rfl
    · exact piece_at 20 2560 rfl slices_S256x4096_o0_2560_S256x128 (k3_pay3 x0) inb_S256x4096_S256x128_0_2560 _ rfl
    · exact piece_at 19 2432 rfl slices_S256x4096_o0_2432_S256x128 (k3_pay3 x0) inb_S256x4096_S256x128_0_2432 _ rfl
    · exact piece_at 18 2304 rfl slices_S256x4096_o0_2304_S256x128 (k3_pay3 x0) inb_S256x4096_S256x128_0_2304 _ rfl
    · exact piece_at 17 2176 rfl slices_S256x4096_o0_2176_S256x128 (k3_pay3 x0) inb_S256x4096_S256x128_0_2176 _ rfl
    · exact piece_at 16 2048 rfl slices_S256x4096_o0_2048_S256x128 (k3_pay3 x0) inb_S256x4096_S256x128_0_2048 _ rfl
    · exact piece_at 15 1920 rfl slices_S256x4096_o0_1920_S256x128 (k3_pay3 x0) inb_S256x4096_S256x128_0_1920 _ rfl
    · exact piece_at 14 1792 rfl slices_S256x4096_o0_1792_S256x128 (k3_pay3 x0) inb_S256x4096_S256x128_0_1792 _ rfl
    · exact piece_at 13 1664 rfl slices_S256x4096_o0_1664_S256x128 (k3_pay3 x0) inb_S256x4096_S256x128_0_1664 _ rfl
    · exact piece_at 12 1536 rfl slices_S256x4096_o0_1536_S256x128 (k3_pay3 x0) inb_S256x4096_S256x128_0_1536 _ rfl
    · exact piece_at 11 1408 rfl slices_S256x4096_o0_1408_S256x128 (k3_pay3 x0) inb_S256x4096_S256x128_0_1408 _ rfl
    · exact piece_at 10 1280 rfl slices_S256x4096_o0_1280_S256x128 (k3_pay3 x0) inb_S256x4096_S256x128_0_1280 _ rfl
    · exact piece_at 9 1152 rfl slices_S256x4096_o0_1152_S256x128 (k3_pay3 x0) inb_S256x4096_S256x128_0_1152 _ rfl
    · exact piece_at 8 1024 rfl slices_S256x4096_o0_1024_S256x128 (k3_pay3 x0) inb_S256x4096_S256x128_0_1024 _ rfl
    · exact piece_at 7 896 rfl slices_S256x4096_o0_896_S256x128 (k3_pay3 x0) inb_S256x4096_S256x128_0_896 _ rfl
    · exact piece_at 6 768 rfl slices_S256x4096_o0_768_S256x128 (k3_pay3 x0) inb_S256x4096_S256x128_0_768 _ rfl
    · exact piece_at 5 640 rfl slices_S256x4096_o0_640_S256x128 (k3_pay3 x0) inb_S256x4096_S256x128_0_640 _ rfl
    · exact piece_at 4 512 rfl slices_S256x4096_o0_512_S256x128 (k3_pay3 x0) inb_S256x4096_S256x128_0_512 _ rfl
    · exact piece_at 3 384 rfl slices_S256x4096_o0_384_S256x128 (k3_pay3 x0) inb_S256x4096_S256x128_0_384 _ rfl
    · exact piece_at 2 256 rfl slices_S256x4096_o0_256_S256x128 (k3_pay3 x0) inb_S256x4096_S256x128_0_256 _ rfl
    · exact piece_at 1 128 rfl slices_S256x4096_o0_128_S256x128 (k3_pay3 x0) inb_S256x4096_S256x128_0_128 _ rfl
    · exact piece_at 0 0 rfl slices_S256x4096_o0_0_S256x128 (k3_pay3 x0) inb_S256x4096_S256x128_0_0 _ rfl
  · refine View.cover_of_tiledL (s := S256x4096) _ S256x128.size ?_ _
    sl_kernel_rfl

/-- The block the body starts from. -/
theorem start_eq (x0 : Vec Ideal S256x4096 .f32) : k3_pay3 x0 = posBlock x0 := by
  funext y
  obtain ⟨r, l, rfl⟩ : ∃ (r : Fin 256) (l : Fin 4096), y = ix2 r l := ⟨y 0, y 1, eq_ix2 y⟩
  pointwise [k3_pay3]
  rfl

/-- The rows the body loads are the block's. -/
theorem start_read (c : Dev nD) (arg1 : Memref sig .tc .vmem S256x4096 .f32) (harg1 : arg1.IsWhole) (x0 : Vec Ideal S256x4096 .f32) :
    kernelRun3_A.sl.r (F := Ideal) c arg1 harg1 x0 = k3_pay3 x0 := by
  sl_unfold_words
  simp only [View.readAt_eq_ld, harg1.read_unread]
  have hz : (![0, 0] : Fin S256x4096.rank → Nat) = fun _ => 0 := funext fun a => by fin_cases a <;> rfl
  simp only [View.ld_unit_zero (S := S256x4096) hz]

/-- The stored value is the layer of the rows. -/
theorem out_pay (x : Vec Ideal S256x4096 .f32) (w : Vec Ideal S4096x4096 .bf16) :
    k3_pay2 x (quantBlock x) w = layerBlock x w := by
  funext y
  obtain ⟨r, l, rfl⟩ : ∃ (r : Fin 256) (l : Fin 4096), y = ix2 r l := ⟨y 0, y 1, eq_ix2 y⟩
  pointwise [k3_pay2]

  rfl

/-- After the body at a point the result block holds the layer of the point's rows. -/
theorem after_eq (V : (c : Dev nD) → (b : Ref sig .tc) → Buf (Elt Ideal) ((c : Thread nD τ).loc b)) (c : Dev nD) (t : Fin cfg3.N) :
    (dat3 V c).after 2 t = layerBlock (posBlock (iblk3 V c 0 t)) (iblk3 V c 1 t) := by
  rw [after3_2]
  unfold outsAt3 out3_A_2
  rw [View.read_writes_eq_canon _ _ _ (cover3_A_2 c _ _ _ _ _ _ _ _ _ _ _)]
  unfold kernelRun3_A
  dsimp only
  have hz : (![0, 0] : Fin S256x4096.rank → Nat) = fun _ => 0 := funext fun a => by fin_cases a <;> rfl
  have hw : (![0, 0] : Fin S4096x4096.rank → Nat) = fun _ => 0 := funext fun a => by fin_cases a <;> rfl
  refine (View.canon_unit_zero (S := S256x4096) hz _ _).trans ?_
  rw [scratch_eq, show kernelRun3_A.sl.r (F := Ideal) c (ms3_0 t) (hs3_0 t) (iblk3 V c 0 t) = k3_pay3 (iblk3 V c 0 t) from start_read c _ _ _,
    View.readAt_eq_ld, (hs3_1 t).read_unread]
  refine (congrArg _ (View.ld_unit_zero (S := S4096x4096) hw _ _)).trans ?_
  rw [start_eq]
  exact out_pay _ _

end Cert.KernelIdeal.Stage3

end

end
-- ==== Proof.Whole.lean ====
/- What a stage makes of whole arrays, and how its blocks of 256 rows sit in them. -/
module

public import proofs.«01_k».proof.Proof.Piece

@[expose] public section

noncomputable section

namespace Cert.KernelIdeal.Whole

open Idealize.ShloMosaic Cert.KernelIdeal Cert.KernelIdeal.Gen Cert.KernelIdeal.Block
open Idealize.ShloMosaic.TcCoe

/-- Row `r` of an array. -/
def row (x : FVec Ideal S8192x4096 .f32) (r : Fin 8192) : Cert.Spec.Row := fun c => x (ix2 r c)
/-- The positive part of an array. -/
def pos (x : FVec Ideal S8192x4096 .f32) : FVec Ideal S8192x4096 .f32 := fun i => Cert.Spec.relu (row x (i 0)) (i 1)
/-- The layer of every row of an array. -/
def layers (x : FVec Ideal S8192x4096 .f32) (w : FVec Ideal S4096x4096 .bf16) : FVec Ideal S8192x4096 .f32 :=
  fun i => Cert.Spec.layer (row x (i 0)) (fun k c => w (ix2 k c)) (i 1)
/-- Every row of an array normalised. -/
def norms (x : FVec Ideal S8192x4096 .f32) : FVec Ideal S8192x4096 .f32 := fun i => Cert.Spec.norm (row x (i 0)) (i 1)

/-- Row `r` of block `t`, as a row of the array. -/
def at256 (t : Fin 32) (r : Fin 256) : Fin 8192 := ⟨t.val * 256 + r.val, by omega⟩
/-- Row `r` of weight block `t`, as a row of the weights. -/
def at128 (t : Fin 32) (r : Fin 128) : Fin 4096 := ⟨t.val * 128 + r.val, by omega⟩

/-- Each weight times the scale of its row block and its column. -/
def scaled (A : FVec Ideal S4096x4096 .fp8e4m3) (s : FVec Ideal S32x1x4096 .f32) : FVec Ideal S4096x4096 .bf16 :=
  fun i => A i * s (ix3 (Cert.Spec.grp (i 0)) 0 (i 1))

/-- Its value in row block `t`. -/
theorem scaled_apply (A : FVec Ideal S4096x4096 .fp8e4m3) (s : FVec Ideal S32x1x4096 .f32) (t : Fin 32) (r : Fin 128) (l : Fin 4096) :
    scaled A s (ix2 (at128 t r) l) = A (ix2 (at128 t r) l) * s (ix3 t 0 l) := by
  have hg : Cert.Spec.grp (at128 t r) = t := Fin.ext (by show (t.val * 128 + r.val) / 128 = t.val; omega)
  show A (ix2 (at128 t r) l) * s (ix3 (Cert.Spec.grp (at128 t r)) 0 l) = _
  rw [hg]

/-- If block `x` holds the rows of `X` from row `256 t`, its layer holds those rows of the layer of `X`. -/
theorem layer_block (t : Fin 32) (x : FVec Ideal S256x4096 .f32) (X : FVec Ideal S8192x4096 .f32) (w W : FVec Ideal S4096x4096 .bf16)
    (hx : ∀ r l, x (ix2 r l) = X (ix2 (at256 t r) l)) (hw : ∀ k l, w (ix2 k l) = W (ix2 k l)) (r : Fin 256) (l : Fin 4096) :
    layerBlock x w (ix2 r l) = layers X W (ix2 (at256 t r) l) := by
  have e1 : rowOf x r = row X (at256 t r) := funext fun c => hx r c
  have e2 : (fun k c => w (ix2 k c)) = fun k c => W (ix2 k c) := funext fun k => funext fun c => hw k c
  show Cert.Spec.layer (rowOf x r) (fun k c => w (ix2 k c)) l = Cert.Spec.layer (row X (at256 t r)) (fun k c => W (ix2 k c)) l
  rw [e1, e2]

/-- The same of the positive part. -/
theorem pos_block (t : Fin 32) (x : FVec Ideal S256x4096 .f32) (X : FVec Ideal S8192x4096 .f32)
    (hx : ∀ r l, x (ix2 r l) = X (ix2 (at256 t r) l)) (r : Fin 256) (l : Fin 4096) :
    posBlock x (ix2 r l) = pos X (ix2 (at256 t r) l) := by
  have e1 : rowOf x r = row X (at256 t r) := funext fun c => hx r c
  show Cert.Spec.relu (rowOf x r) l = Cert.Spec.relu (row X (at256 t r)) l
  rw [e1]

/-- The same of normalising. -/
theorem norm_block (t : Fin 32) (x : FVec Ideal S256x4096 .f32) (X : FVec Ideal S8192x4096 .f32)
    (hx : ∀ r l, x (ix2 r l) = X (ix2 (at256 t r) l)) (r : Fin 256) (l : Fin 4096) :
    normBlock x (ix2 r l) = norms X (ix2 (at256 t r) l) := by
  have e1 : rowOf x r = row X (at256 t r) := funext fun c => hx r c
  show Cert.Spec.norm (rowOf x r) l = Cert.Spec.norm (row X (at256 t r)) l
  rw [e1]

end Cert.KernelIdeal.Whole

end

end
-- ==== Proof.Array3.lean ====
/- The result array of stage region 3. -/
module

public import proofs.«01_k».proof.Proof.Stage3
public import proofs.«01_k».proof.Proof.Whole

@[expose] public section

noncomputable section

namespace Cert.KernelIdeal.Array3

open Idealize.ShloMosaic Cert.KernelIdeal Cert.KernelIdeal.Gen Cert.KernelIdeal.Block
open Idealize.ShloMosaic.TcCoe
open Cert.KernelIdeal.Whole

/-- Where the blocks of the three windows lie: point `t` takes row block `t` and the whole weights. -/
theorem index_in : ∀ t : Fin cfg3.N, win3_0.index t (0 : Fin 2) = t.val ∧ win3_0.index t (1 : Fin 2) = 0 :=
  (by decide +kernel : ∀ t : Fin grid3.N, _)
theorem index_w : ∀ t : Fin cfg3.N, win3_1.index t (0 : Fin 2) = 0 ∧ win3_1.index t (1 : Fin 2) = 0 :=
  (by decide +kernel : ∀ t : Fin grid3.N, _)
theorem index_out : ∀ t : Fin cfg3.N, win3_2.index t (0 : Fin 2) = t.val ∧ win3_2.index t (1 : Fin 2) = 0 :=
  (by decide +kernel : ∀ t : Fin grid3.N, _)

/-- A point of the grid as one of 32 blocks. -/
def num (t : Fin cfg3.N) : Fin 32 := ⟨t.val, N_3 ▸ t.isLt⟩

theorem emb_in (t : Fin cfg3.N) (r : Fin 256) (l : Fin 4096) :
    ((cfg3.win 0).blk t).view.emb (ix2 r l : S256x4096.Idx) = (ix2 (at256 (num t) r) l : S8192x4096.Idx) := by
  obtain ⟨e0, e1⟩ := index_in t
  funext a; apply Fin.ext
  match a with
  | ⟨0, _⟩ => show win3_0.index t (0 : Fin 2) * 256 + 1 * r.val = t.val * 256 + r.val; omega
  | ⟨1, _⟩ => show win3_0.index t (1 : Fin 2) * 4096 + 1 * l.val = l.val; omega

theorem emb_w (t : Fin cfg3.N) (r : Fin 4096) (l : Fin 4096) :
    ((cfg3.win 1).blk t).view.emb (ix2 r l : S4096x4096.Idx) = (ix2 r l : S4096x4096.Idx) := by
  obtain ⟨e0, e1⟩ := index_w t
  funext a; apply Fin.ext
  match a with
  | ⟨0, _⟩ => show win3_1.index t (0 : Fin 2) * 4096 + 1 * r.val = r.val; omega
  | ⟨1, _⟩ => show win3_1.index t (1 : Fin 2) * 4096 + 1 * l.val = l.val; omega

theorem emb_out (t : Fin cfg3.N) (r : Fin 256) (l : Fin 4096) :
    ((cfg3.win 2).blk t).view.emb (ix2 r l : S256x4096.Idx) = (ix2 (at256 (num t) r) l : S8192x4096.Idx) := by
  obtain ⟨e0, e1⟩ := index_out t
  funext a; apply Fin.ext
  match a with
  | ⟨0, _⟩ => show win3_2.index t (0 : Fin 2) * 256 + 1 * r.val = t.val * 256 + r.val; omega
  | ⟨1, _⟩ => show win3_2.index t (1 : Fin 2) * 4096 + 1 * l.val = l.val; omega

variable (V : (c : Dev nD) → (b : Ref sig .tc) → Buf (Elt Ideal) ((c : Thread nD τ).loc b))

/-- The input block holds the array's rows from row `256 t`. -/
theorem in_at (c : Dev nD) (t : Fin cfg3.N) (r : Fin 256) (l : Fin 4096) :
    (iblk3 V c 0 t : FVec Ideal S256x4096 .f32) (ix2 r l) = (V c main_arg0 : FVec Ideal S8192x4096 .f32) (ix2 (at256 (num t) r) l) :=
  congrArg (V c main_arg0 : FVec Ideal S8192x4096 .f32) (emb_in t r l)

/-- The weight block holds the weights. -/
theorem w_at (c : Dev nD) (t : Fin cfg3.N) (k l : Fin 4096) :
    (iblk3 V c 1 t : FVec Ideal S4096x4096 .bf16) (ix2 k l) = (V c main_v4 : FVec Ideal S4096x4096 .bf16) (ix2 k l) :=
  congrArg (V c main_v4 : FVec Ideal S4096x4096 .bf16) (emb_w t k l)

/-- What the region leaves, from its input array and the weights. -/
def G (X : FVec Ideal S8192x4096 .f32) (W : FVec Ideal S4096x4096 .bf16) : FVec Ideal S8192x4096 .f32 := layers (pos X) W

/-- Point `t` writes back its block of `G`. -/
theorem flushed_eq (c : Dev nD) (t : Fin cfg3.N) : (dat3 V c).flushed 2 t
    = ((cfg3.win 2).blk t).view.read (Elt Ideal) (G (V c main_arg0) (V c main_v4)) := by
  show (cfg3.win 2).cut (grid3.coords t) ((dat3 V c).after 2 t) = _
  rw [Stage3.after_eq]
  funext j
  obtain ⟨r, l, rfl⟩ : ∃ (r : Fin 256) (l : Fin 4096), j = (ix2 r l : S256x4096.Idx) := ⟨j 0, j 1, eq_ix2 j⟩
  refine Eq.trans ?_ (congrArg (G (V c main_arg0) (V c main_v4)) (emb_out t r l)).symm
  exact layer_block (num t) _ (pos (V c main_arg0)) _ _ (pos_block (num t) _ _ (in_at V c t)) (w_at V c t) r l

/-- Every place of the result lies in the block of some point. -/
theorem covered (i : S8192x4096.Idx) : ∃ t : Fin cfg3.N, (cfg3.win 2).flush t = true ∧ i ∈ ((cfg3.win 2).blk t).view.set := by
  obtain ⟨r, l, rfl⟩ : ∃ (r : Fin 8192) (l : Fin 4096), i = ix2 r l := ⟨i 0, i 1, eq_ix2 i⟩
  have hlt : r.val / 256 < cfg3.N := by rw [show cfg3.N = 32 from N_3]; omega
  refine ⟨⟨r.val / 256, hlt⟩, flush3_2 _, ?_⟩
  have h := ((cfg3.win 2).blk ⟨r.val / 256, hlt⟩).view.emb_mem_set (ix2 (⟨r.val % 256, by omega⟩ : Fin 256) l : S256x4096.Idx)
  rw [emb_out] at h
  have e : at256 (num ⟨r.val / 256, hlt⟩) ⟨r.val % 256, by omega⟩ = r :=
    Fin.ext (by show r.val / 256 * 256 + r.val % 256 = r.val; omega)
  rwa [e] at h

/-- The result array after the region. -/
theorem final (c : Dev nD) : (dat3 V c).arrAt 2 cfg3.N = G (V c main_arg0) (V c main_v4) :=
  (dat3 V c).arrAt_eq_of_cover 2 (G (V c main_arg0) (V c main_v4)) (fun t _ => flushed_eq V c t) covered

end Cert.KernelIdeal.Array3

end

end
-- ==== Proof.Stage4.lean ====
/- What the body of stage region 4 leaves in its result block. -/
module

public import Idealize.ShloMosaic.Lib.Pipeline.ValueKit
public import Idealize.ShloMosaic.Lib.Pipeline.ReadBack
public import proofs.«01_k».proof.Proof.Gen.KernelIdeal.Frame
public import proofs.«01_k».proof.Proof.Piece

@[expose] public section

noncomputable section

namespace Cert.KernelIdeal.Stage4

open Idealize.ShloMosaic Cert.KernelIdeal Cert.KernelIdeal.Gen Cert.KernelIdeal.Block
open Idealize.ShloMosaic.TcCoe

/-- The scratch read before the product holds the requantised rows of the block. -/
theorem scratch_eq (c : Dev nD) (arg1 : Memref sig .tc .vmem S256x4096 .f32) (harg1 : arg1.IsWhole) (arg4 : Memref sig .tc .vmem S256x4096 .bf16)
    (x0 : Vec Ideal S256x4096 .f32) : kernelRun4_A.sl.v650 (F := Ideal) c arg1 harg1 arg4 x0 = quantBlock (k4_pay3 x0) := by
  unfold kernelRun4_A.sl.v650
  sl_unfold_words
  simp only [View.readAt_eq_ld, harg1.read_unread]
  have hz : (![0, 0] : Fin S256x4096.rank → Nat) = fun _ => 0 := funext fun a => by fin_cases a <;> rfl
  simp only [View.ld_unit_zero (S := S256x4096) hz]
  rw [View.readCov_eq_canon']
  refine Eq.trans ?_ (View.ld_unit_zero (S := S256x4096) (Val := Elt Ideal) (e := .bf16) hz inb_S256x4096_S256x4096_0_0 (quantBlock (k4_pay3 x0)))
  funext y
  refine View.canon_apply_of_pieces (Val := Elt Ideal) (e := .bf16) (quantBlock (k4_pay3 x0)) _ (View.PiecesOf.mem ?_) _ ?_
  · refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
    · exact piece_at 31 3968 rfl slices_S256x4096_o0_3968_S256x128 (k4_pay3 x0) inb_S256x4096_S256x128_0_3968 _ rfl
    · exact piece_at 30 3840 rfl slices_S256x4096_o0_3840_S256x128 (k4_pay3 x0) inb_S256x4096_S256x128_0_3840 _ rfl
    · exact piece_at 29 3712 rfl slices_S256x4096_o0_3712_S256x128 (k4_pay3 x0) inb_S256x4096_S256x128_0_3712 _ rfl
    · exact piece_at 28 3584 rfl slices_S256x4096_o0_3584_S256x128 (k4_pay3 x0) inb_S256x4096_S256x128_0_3584 _ rfl
    · exact piece_at 27 3456 rfl slices_S256x4096_o0_3456_S256x128 (k4_pay3 x0) inb_S256x4096_S256x128_0_3456 _ rfl
    · exact piece_at 26 3328 rfl slices_S256x4096_o0_3328_S256x128 (k4_pay3 x0) inb_S256x4096_S256x128_0_3328 _ rfl
    · exact piece_at 25 3200 rfl slices_S256x4096_o0_3200_S256x128 (k4_pay3 x0) inb_S256x4096_S256x128_0_3200 _ rfl
    · exact piece_at 24 3072 rfl slices_S256x4096_o0_3072_S256x128 (k4_pay3 x0) inb_S256x4096_S256x128_0_3072 _ rfl
    · exact piece_at 23 2944 rfl slices_S256x4096_o0_2944_S256x128 (k4_pay3 x0) inb_S256x4096_S256x128_0_2944 _ rfl
    · exact piece_at 22 2816 rfl slices_S256x4096_o0_2816_S256x128 (k4_pay3 x0) inb_S256x4096_S256x128_0_2816 _ rfl
    · exact piece_at 21 2688 rfl slices_S256x4096_o0_2688_S256x128 (k4_pay3 x0) inb_S256x4096_S256x128_0_2688 _ rfl
    · exact piece_at 20 2560 rfl slices_S256x4096_o0_2560_S256x128 (k4_pay3 x0) inb_S256x4096_S256x128_0_2560 _ rfl
    · exact piece_at 19 2432 rfl slices_S256x4096_o0_2432_S256x128 (k4_pay3 x0) inb_S256x4096_S256x128_0_2432 _ rfl
    · exact piece_at 18 2304 rfl slices_S256x4096_o0_2304_S256x128 (k4_pay3 x0) inb_S256x4096_S256x128_0_2304 _ rfl
    · exact piece_at 17 2176 rfl slices_S256x4096_o0_2176_S256x128 (k4_pay3 x0) inb_S256x4096_S256x128_0_2176 _ rfl
    · exact piece_at 16 2048 rfl slices_S256x4096_o0_2048_S256x128 (k4_pay3 x0) inb_S256x4096_S256x128_0_2048 _ rfl
    · exact piece_at 15 1920 rfl slices_S256x4096_o0_1920_S256x128 (k4_pay3 x0) inb_S256x4096_S256x128_0_1920 _ rfl
    · exact piece_at 14 1792 rfl slices_S256x4096_o0_1792_S256x128 (k4_pay3 x0) inb_S256x4096_S256x128_0_1792 _ rfl
    · exact piece_at 13 1664 rfl slices_S256x4096_o0_1664_S256x128 (k4_pay3 x0) inb_S256x4096_S256x128_0_1664 _ rfl
    · exact piece_at 12 1536 rfl slices_S256x4096_o0_1536_S256x128 (k4_pay3 x0) inb_S256x4096_S256x128_0_1536 _ rfl
    · exact piece_at 11 1408 rfl slices_S256x4096_o0_1408_S256x128 (k4_pay3 x0) inb_S256x4096_S256x128_0_1408 _ rfl
    · exact piece_at 10 1280 rfl slices_S256x4096_o0_1280_S256x128 (k4_pay3 x0) inb_S256x4096_S256x128_0_1280 _ rfl
    · exact piece_at 9 1152 rfl slices_S256x4096_o0_1152_S256x128 (k4_pay3 x0) inb_S256x4096_S256x128_0_1152 _ rfl
    · exact piece_at 8 1024 rfl slices_S256x4096_o0_1024_S256x128 (k4_pay3 x0) inb_S256x4096_S256x128_0_1024 _ rfl
    · exact piece_at 7 896 rfl slices_S256x4096_o0_896_S256x128 (k4_pay3 x0) inb_S256x4096_S256x128_0_896 _ rfl
    · exact piece_at 6 768 rfl slices_S256x4096_o0_768_S256x128 (k4_pay3 x0) inb_S256x4096_S256x128_0_768 _ rfl
    · exact piece_at 5 640 rfl slices_S256x4096_o0_640_S256x128 (k4_pay3 x0) inb_S256x4096_S256x128_0_640 _ rfl
    · exact piece_at 4 512 rfl slices_S256x4096_o0_512_S256x128 (k4_pay3 x0) inb_S256x4096_S256x128_0_512 _ rfl
    · exact piece_at 3 384 rfl slices_S256x4096_o0_384_S256x128 (k4_pay3 x0) inb_S256x4096_S256x128_0_384 _ rfl
    · exact piece_at 2 256 rfl slices_S256x4096_o0_256_S256x128 (k4_pay3 x0) inb_S256x4096_S256x128_0_256 _ rfl
    · exact piece_at 1 128 rfl slices_S256x4096_o0_128_S256x128 (k4_pay3 x0) inb_S256x4096_S256x128_0_128 _ rfl
    · exact piece_at 0 0 rfl slices_S256x4096_o0_0_S256x128 (k4_pay3 x0) inb_S256x4096_S256x128_0_0 _ rfl
  · refine View.cover_of_tiledL (s := S256x4096) _ S256x128.size ?_ _
    sl_kernel_rfl

/-- The block the body starts from. -/
theorem start_eq (x0 : Vec Ideal S256x4096 .f32) : k4_pay3 x0 = x0 := by
  funext y
  obtain ⟨r, l, rfl⟩ : ∃ (r : Fin 256) (l : Fin 4096), y = ix2 r l := ⟨y 0, y 1, eq_ix2 y⟩
  pointwise [k4_pay3]

/-- The rows the body loads are the block's. -/
theorem start_read (c : Dev nD) (arg1 : Memref sig .tc .vmem S256x4096 .f32) (harg1 : arg1.IsWhole) (x0 : Vec Ideal S256x4096 .f32) :
    kernelRun4_A.sl.r (F := Ideal) c arg1 harg1 x0 = k4_pay3 x0 := by
  sl_unfold_words
  simp only [View.readAt_eq_ld, harg1.read_unread]
  have hz : (![0, 0] : Fin S256x4096.rank → Nat) = fun _ => 0 := funext fun a => by fin_cases a <;> rfl
  simp only [View.ld_unit_zero (S := S256x4096) hz]

/-- The stored value is the layer of the rows. -/
theorem out_pay (x : Vec Ideal S256x4096 .f32) (w : Vec Ideal S4096x4096 .bf16) :
    k4_pay2 x (quantBlock x) w = layerBlock x w := by
  funext y
  obtain ⟨r, l, rfl⟩ : ∃ (r : Fin 256) (l : Fin 4096), y = ix2 r l := ⟨y 0, y 1, eq_ix2 y⟩
  pointwise [k4_pay2]

  rfl

/-- After the body at a point the result block holds the layer of the point's rows. -/
theorem after_eq (V : (c : Dev nD) → (b : Ref sig .tc) → Buf (Elt Ideal) ((c : Thread nD τ).loc b)) (c : Dev nD) (t : Fin cfg4.N) :
    (dat4 V c).after 2 t = layerBlock (iblk4 V c 0 t) (iblk4 V c 1 t) := by
  rw [after4_2]
  unfold outsAt4 out4_A_2
  rw [View.read_writes_eq_canon _ _ _ (cover4_A_2 c _ _ _ _ _ _ _ _ _ _ _)]
  unfold kernelRun4_A
  dsimp only
  have hz : (![0, 0] : Fin S256x4096.rank → Nat) = fun _ => 0 := funext fun a => by fin_cases a <;> rfl
  have hw : (![0, 0] : Fin S4096x4096.rank → Nat) = fun _ => 0 := funext fun a => by fin_cases a <;> rfl
  refine (View.canon_unit_zero (S := S256x4096) hz _ _).trans ?_
  rw [scratch_eq, show kernelRun4_A.sl.r (F := Ideal) c (ms4_0 t) (hs4_0 t) (iblk4 V c 0 t) = k4_pay3 (iblk4 V c 0 t) from start_read c _ _ _,
    View.readAt_eq_ld, (hs4_1 t).read_unread]
  refine (congrArg _ (View.ld_unit_zero (S := S4096x4096) hw _ _)).trans ?_
  rw [start_eq]
  exact out_pay _ _

end Cert.KernelIdeal.Stage4

end

end
-- ==== Proof.Array4.lean ====
/- The result array of stage region 4. -/
module

public import proofs.«01_k».proof.Proof.Stage4
public import proofs.«01_k».proof.Proof.Whole

@[expose] public section

noncomputable section

namespace Cert.KernelIdeal.Array4

open Idealize.ShloMosaic Cert.KernelIdeal Cert.KernelIdeal.Gen Cert.KernelIdeal.Block
open Idealize.ShloMosaic.TcCoe
open Cert.KernelIdeal.Whole

/-- Where the blocks of the three windows lie: point `t` takes row block `t` and the whole weights. -/
theorem index_in : ∀ t : Fin cfg4.N, win4_0.index t (0 : Fin 2) = t.val ∧ win4_0.index t (1 : Fin 2) = 0 :=
  (by decide +kernel : ∀ t : Fin grid4.N, _)
theorem index_w : ∀ t : Fin cfg4.N, win4_1.index t (0 : Fin 2) = 0 ∧ win4_1.index t (1 : Fin 2) = 0 :=
  (by decide +kernel : ∀ t : Fin grid4.N, _)
theorem index_out : ∀ t : Fin cfg4.N, win4_2.index t (0 : Fin 2) = t.val ∧ win4_2.index t (1 : Fin 2) = 0 :=
  (by decide +kernel : ∀ t : Fin grid4.N, _)

/-- A point of the grid as one of 32 blocks. -/
def num (t : Fin cfg4.N) : Fin 32 := ⟨t.val, N_4 ▸ t.isLt⟩

theorem emb_in (t : Fin cfg4.N) (r : Fin 256) (l : Fin 4096) :
    ((cfg4.win 0).blk t).view.emb (ix2 r l : S256x4096.Idx) = (ix2 (at256 (num t) r) l : S8192x4096.Idx) := by
  obtain ⟨e0, e1⟩ := index_in t
  funext a; apply Fin.ext
  match a with
  | ⟨0, _⟩ => show win4_0.index t (0 : Fin 2) * 256 + 1 * r.val = t.val * 256 + r.val; omega
  | ⟨1, _⟩ => show win4_0.index t (1 : Fin 2) * 4096 + 1 * l.val = l.val; omega

theorem emb_w (t : Fin cfg4.N) (r : Fin 4096) (l : Fin 4096) :
    ((cfg4.win 1).blk t).view.emb (ix2 r l : S4096x4096.Idx) = (ix2 r l : S4096x4096.Idx) := by
  obtain ⟨e0, e1⟩ := index_w t
  funext a; apply Fin.ext
  match a with
  | ⟨0, _⟩ => show win4_1.index t (0 : Fin 2) * 4096 + 1 * r.val = r.val; omega
  | ⟨1, _⟩ => show win4_1.index t (1 : Fin 2) * 4096 + 1 * l.val = l.val; omega

theorem emb_out (t : Fin cfg4.N) (r : Fin 256) (l : Fin 4096) :
    ((cfg4.win 2).blk t).view.emb (ix2 r l : S256x4096.Idx) = (ix2 (at256 (num t) r) l : S8192x4096.Idx) := by
  obtain ⟨e0, e1⟩ := index_out t
  funext a; apply Fin.ext
  match a with
  | ⟨0, _⟩ => show win4_2.index t (0 : Fin 2) * 256 + 1 * r.val = t.val * 256 + r.val; omega
  | ⟨1, _⟩ => show win4_2.index t (1 : Fin 2) * 4096 + 1 * l.val = l.val; omega

variable (V : (c : Dev nD) → (b : Ref sig .tc) → Buf (Elt Ideal) ((c : Thread nD τ).loc b))

/-- The input block holds the array's rows from row `256 t`. -/
theorem in_at (c : Dev nD) (t : Fin cfg4.N) (r : Fin 256) (l : Fin 4096) :
    (iblk4 V c 0 t : FVec Ideal S256x4096 .f32) (ix2 r l) = (V c main_v15 : FVec Ideal S8192x4096 .f32) (ix2 (at256 (num t) r) l) :=
  congrArg (V c main_v15 : FVec Ideal S8192x4096 .f32) (emb_in t r l)

/-- The weight block holds the weights. -/
theorem w_at (c : Dev nD) (t : Fin cfg4.N) (k l : Fin 4096) :
    (iblk4 V c 1 t : FVec Ideal S4096x4096 .bf16) (ix2 k l) = (V c main_v9 : FVec Ideal S4096x4096 .bf16) (ix2 k l) :=
  congrArg (V c main_v9 : FVec Ideal S4096x4096 .bf16) (emb_w t k l)

/-- What the region leaves, from its input array and the weights. -/
def G (X : FVec Ideal S8192x4096 .f32) (W : FVec Ideal S4096x4096 .bf16) : FVec Ideal S8192x4096 .f32 := layers X W

/-- Point `t` writes back its block of `G`. -/
theorem flushed_eq (c : Dev nD) (t : Fin cfg4.N) : (dat4 V c).flushed 2 t
    = ((cfg4.win 2).blk t).view.read (Elt Ideal) (G (V c main_v15) (V c main_v9)) := by
  show (cfg4.win 2).cut (grid4.coords t) ((dat4 V c).after 2 t) = _
  rw [Stage4.after_eq]
  funext j
  obtain ⟨r, l, rfl⟩ : ∃ (r : Fin 256) (l : Fin 4096), j = (ix2 r l : S256x4096.Idx) := ⟨j 0, j 1, eq_ix2 j⟩
  refine Eq.trans ?_ (congrArg (G (V c main_v15) (V c main_v9)) (emb_out t r l)).symm
  exact layer_block (num t) _ _ _ _ (in_at V c t) (w_at V c t) r l

/-- Every place of the result lies in the block of some point. -/
theorem covered (i : S8192x4096.Idx) : ∃ t : Fin cfg4.N, (cfg4.win 2).flush t = true ∧ i ∈ ((cfg4.win 2).blk t).view.set := by
  obtain ⟨r, l, rfl⟩ : ∃ (r : Fin 8192) (l : Fin 4096), i = ix2 r l := ⟨i 0, i 1, eq_ix2 i⟩
  have hlt : r.val / 256 < cfg4.N := by rw [show cfg4.N = 32 from N_4]; omega
  refine ⟨⟨r.val / 256, hlt⟩, flush4_2 _, ?_⟩
  have h := ((cfg4.win 2).blk ⟨r.val / 256, hlt⟩).view.emb_mem_set (ix2 (⟨r.val % 256, by omega⟩ : Fin 256) l : S256x4096.Idx)
  rw [emb_out] at h
  have e : at256 (num ⟨r.val / 256, hlt⟩) ⟨r.val % 256, by omega⟩ = r :=
    Fin.ext (by show r.val / 256 * 256 + r.val % 256 = r.val; omega)
  rwa [e] at h

/-- The result array after the region. -/
theorem final (c : Dev nD) : (dat4 V c).arrAt 2 cfg4.N = G (V c main_v15) (V c main_v9) :=
  (dat4 V c).arrAt_eq_of_cover 2 (G (V c main_v15) (V c main_v9)) (fun t _ => flushed_eq V c t) covered

end Cert.KernelIdeal.Array4

end

end
-- ==== Proof.Stage5.lean ====
/- What the body of stage region 5 leaves in its result block. -/
module

public import Idealize.ShloMosaic.Lib.Pipeline.ValueKit
public import Idealize.ShloMosaic.Lib.Pipeline.ReadBack
public import proofs.«01_k».proof.Proof.Gen.KernelIdeal.Frame
public import proofs.«01_k».proof.Proof.Piece

@[expose] public section

noncomputable section

namespace Cert.KernelIdeal.Stage5

open Idealize.ShloMosaic Cert.KernelIdeal Cert.KernelIdeal.Gen Cert.KernelIdeal.Block
open Idealize.ShloMosaic.TcCoe

/-- The scratch read before the product holds the requantised rows of the block. -/
theorem scratch_eq (c : Dev nD) (arg1 : Memref sig .tc .vmem S256x4096 .f32) (harg1 : arg1.IsWhole) (arg4 : Memref sig .tc .vmem S256x4096 .bf16)
    (x0 : Vec Ideal S256x4096 .f32) : kernelRun5_A.sl.v650 (F := Ideal) c arg1 harg1 arg4 x0 = quantBlock (k5_pay3 x0) := by
  unfold kernelRun5_A.sl.v650
  sl_unfold_words
  simp only [View.readAt_eq_ld, harg1.read_unread]
  have hz : (![0, 0] : Fin S256x4096.rank → Nat) = fun _ => 0 := funext fun a => by fin_cases a <;> rfl
  simp only [View.ld_unit_zero (S := S256x4096) hz]
  rw [View.readCov_eq_canon']
  refine Eq.trans ?_ (View.ld_unit_zero (S := S256x4096) (Val := Elt Ideal) (e := .bf16) hz inb_S256x4096_S256x4096_0_0 (quantBlock (k5_pay3 x0)))
  funext y
  refine View.canon_apply_of_pieces (Val := Elt Ideal) (e := .bf16) (quantBlock (k5_pay3 x0)) _ (View.PiecesOf.mem ?_) _ ?_
  · refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
    · exact piece_at 31 3968 rfl slices_S256x4096_o0_3968_S256x128 (k5_pay3 x0) inb_S256x4096_S256x128_0_3968 _ rfl
    · exact piece_at 30 3840 rfl slices_S256x4096_o0_3840_S256x128 (k5_pay3 x0) inb_S256x4096_S256x128_0_3840 _ rfl
    · exact piece_at 29 3712 rfl slices_S256x4096_o0_3712_S256x128 (k5_pay3 x0) inb_S256x4096_S256x128_0_3712 _ rfl
    · exact piece_at 28 3584 rfl slices_S256x4096_o0_3584_S256x128 (k5_pay3 x0) inb_S256x4096_S256x128_0_3584 _ rfl
    · exact piece_at 27 3456 rfl slices_S256x4096_o0_3456_S256x128 (k5_pay3 x0) inb_S256x4096_S256x128_0_3456 _ rfl
    · exact piece_at 26 3328 rfl slices_S256x4096_o0_3328_S256x128 (k5_pay3 x0) inb_S256x4096_S256x128_0_3328 _ rfl
    · exact piece_at 25 3200 rfl slices_S256x4096_o0_3200_S256x128 (k5_pay3 x0) inb_S256x4096_S256x128_0_3200 _ rfl
    · exact piece_at 24 3072 rfl slices_S256x4096_o0_3072_S256x128 (k5_pay3 x0) inb_S256x4096_S256x128_0_3072 _ rfl
    · exact piece_at 23 2944 rfl slices_S256x4096_o0_2944_S256x128 (k5_pay3 x0) inb_S256x4096_S256x128_0_2944 _ rfl
    · exact piece_at 22 2816 rfl slices_S256x4096_o0_2816_S256x128 (k5_pay3 x0) inb_S256x4096_S256x128_0_2816 _ rfl
    · exact piece_at 21 2688 rfl slices_S256x4096_o0_2688_S256x128 (k5_pay3 x0) inb_S256x4096_S256x128_0_2688 _ rfl
    · exact piece_at 20 2560 rfl slices_S256x4096_o0_2560_S256x128 (k5_pay3 x0) inb_S256x4096_S256x128_0_2560 _ rfl
    · exact piece_at 19 2432 rfl slices_S256x4096_o0_2432_S256x128 (k5_pay3 x0) inb_S256x4096_S256x128_0_2432 _ rfl
    · exact piece_at 18 2304 rfl slices_S256x4096_o0_2304_S256x128 (k5_pay3 x0) inb_S256x4096_S256x128_0_2304 _ rfl
    · exact piece_at 17 2176 rfl slices_S256x4096_o0_2176_S256x128 (k5_pay3 x0) inb_S256x4096_S256x128_0_2176 _ rfl
    · exact piece_at 16 2048 rfl slices_S256x4096_o0_2048_S256x128 (k5_pay3 x0) inb_S256x4096_S256x128_0_2048 _ rfl
    · exact piece_at 15 1920 rfl slices_S256x4096_o0_1920_S256x128 (k5_pay3 x0) inb_S256x4096_S256x128_0_1920 _ rfl
    · exact piece_at 14 1792 rfl slices_S256x4096_o0_1792_S256x128 (k5_pay3 x0) inb_S256x4096_S256x128_0_1792 _ rfl
    · exact piece_at 13 1664 rfl slices_S256x4096_o0_1664_S256x128 (k5_pay3 x0) inb_S256x4096_S256x128_0_1664 _ rfl
    · exact piece_at 12 1536 rfl slices_S256x4096_o0_1536_S256x128 (k5_pay3 x0) inb_S256x4096_S256x128_0_1536 _ rfl
    · exact piece_at 11 1408 rfl slices_S256x4096_o0_1408_S256x128 (k5_pay3 x0) inb_S256x4096_S256x128_0_1408 _ rfl
    · exact piece_at 10 1280 rfl slices_S256x4096_o0_1280_S256x128 (k5_pay3 x0) inb_S256x4096_S256x128_0_1280 _ rfl
    · exact piece_at 9 1152 rfl slices_S256x4096_o0_1152_S256x128 (k5_pay3 x0) inb_S256x4096_S256x128_0_1152 _ rfl
    · exact piece_at 8 1024 rfl slices_S256x4096_o0_1024_S256x128 (k5_pay3 x0) inb_S256x4096_S256x128_0_1024 _ rfl
    · exact piece_at 7 896 rfl slices_S256x4096_o0_896_S256x128 (k5_pay3 x0) inb_S256x4096_S256x128_0_896 _ rfl
    · exact piece_at 6 768 rfl slices_S256x4096_o0_768_S256x128 (k5_pay3 x0) inb_S256x4096_S256x128_0_768 _ rfl
    · exact piece_at 5 640 rfl slices_S256x4096_o0_640_S256x128 (k5_pay3 x0) inb_S256x4096_S256x128_0_640 _ rfl
    · exact piece_at 4 512 rfl slices_S256x4096_o0_512_S256x128 (k5_pay3 x0) inb_S256x4096_S256x128_0_512 _ rfl
    · exact piece_at 3 384 rfl slices_S256x4096_o0_384_S256x128 (k5_pay3 x0) inb_S256x4096_S256x128_0_384 _ rfl
    · exact piece_at 2 256 rfl slices_S256x4096_o0_256_S256x128 (k5_pay3 x0) inb_S256x4096_S256x128_0_256 _ rfl
    · exact piece_at 1 128 rfl slices_S256x4096_o0_128_S256x128 (k5_pay3 x0) inb_S256x4096_S256x128_0_128 _ rfl
    · exact piece_at 0 0 rfl slices_S256x4096_o0_0_S256x128 (k5_pay3 x0) inb_S256x4096_S256x128_0_0 _ rfl
  · refine View.cover_of_tiledL (s := S256x4096) _ S256x128.size ?_ _
    sl_kernel_rfl

/-- The block the body starts from. -/
theorem start_eq (x0 : Vec Ideal S256x4096 .f32) : k5_pay3 x0 = x0 := by
  funext y
  obtain ⟨r, l, rfl⟩ : ∃ (r : Fin 256) (l : Fin 4096), y = ix2 r l := ⟨y 0, y 1, eq_ix2 y⟩
  pointwise [k5_pay3]

/-- The rows the body loads are the block's. -/
theorem start_read (c : Dev nD) (arg1 : Memref sig .tc .vmem S256x4096 .f32) (harg1 : arg1.IsWhole) (x0 : Vec Ideal S256x4096 .f32) :
    kernelRun5_A.sl.r (F := Ideal) c arg1 harg1 x0 = k5_pay3 x0 := by
  sl_unfold_words
  simp only [View.readAt_eq_ld, harg1.read_unread]
  have hz : (![0, 0] : Fin S256x4096.rank → Nat) = fun _ => 0 := funext fun a => by fin_cases a <;> rfl
  simp only [View.ld_unit_zero (S := S256x4096) hz]

/-- The stored value is the layer of the rows, normalised. -/
theorem out_pay (x : Vec Ideal S256x4096 .f32) (w : Vec Ideal S4096x4096 .bf16) :
    k5_pay2 x (quantBlock x) w = normBlock (layerBlock x w) := by
  funext y
  obtain ⟨r, l, rfl⟩ : ∃ (r : Fin 256) (l : Fin 4096), y = ix2 r l := ⟨y 0, y 1, eq_ix2 y⟩
  pointwise [k5_pay2]
  rw [Cert.Spec.ofBits_inv4096]
  rfl

/-- After the body at a point the result block holds the layer of the point's rows. -/
theorem after_eq (V : (c : Dev nD) → (b : Ref sig .tc) → Buf (Elt Ideal) ((c : Thread nD τ).loc b)) (c : Dev nD) (t : Fin cfg5.N) :
    (dat5 V c).after 2 t = normBlock (layerBlock (iblk5 V c 0 t) (iblk5 V c 1 t)) := by
  rw [after5_2]
  unfold outsAt5 out5_A_2
  rw [View.read_writes_eq_canon _ _ _ (cover5_A_2 c _ _ _ _ _ _ _ _ _ _ _)]
  unfold kernelRun5_A
  dsimp only
  have hz : (![0, 0] : Fin S256x4096.rank → Nat) = fun _ => 0 := funext fun a => by fin_cases a <;> rfl
  have hw : (![0, 0] : Fin S4096x4096.rank → Nat) = fun _ => 0 := funext fun a => by fin_cases a <;> rfl
  refine (View.canon_unit_zero (S := S256x4096) hz _ _).trans ?_
  rw [scratch_eq, show kernelRun5_A.sl.r (F := Ideal) c (ms5_0 t) (hs5_0 t) (iblk5 V c 0 t) = k5_pay3 (iblk5 V c 0 t) from start_read c _ _ _,
    View.readAt_eq_ld, (hs5_1 t).read_unread]
  refine (congrArg _ (View.ld_unit_zero (S := S4096x4096) hw _ _)).trans ?_
  rw [start_eq]
  exact out_pay _ _

end Cert.KernelIdeal.Stage5

end

end
-- ==== Proof.Array5.lean ====
/- The result array of stage region 5. -/
module

public import proofs.«01_k».proof.Proof.Stage5
public import proofs.«01_k».proof.Proof.Whole

@[expose] public section

noncomputable section

namespace Cert.KernelIdeal.Array5

open Idealize.ShloMosaic Cert.KernelIdeal Cert.KernelIdeal.Gen Cert.KernelIdeal.Block
open Idealize.ShloMosaic.TcCoe
open Cert.KernelIdeal.Whole

/-- Where the blocks of the three windows lie: point `t` takes row block `t` and the whole weights. -/
theorem index_in : ∀ t : Fin cfg5.N, win5_0.index t (0 : Fin 2) = t.val ∧ win5_0.index t (1 : Fin 2) = 0 :=
  (by decide +kernel : ∀ t : Fin grid5.N, _)
theorem index_w : ∀ t : Fin cfg5.N, win5_1.index t (0 : Fin 2) = 0 ∧ win5_1.index t (1 : Fin 2) = 0 :=
  (by decide +kernel : ∀ t : Fin grid5.N, _)
theorem index_out : ∀ t : Fin cfg5.N, win5_2.index t (0 : Fin 2) = t.val ∧ win5_2.index t (1 : Fin 2) = 0 :=
  (by decide +kernel : ∀ t : Fin grid5.N, _)

/-- A point of the grid as one of 32 blocks. -/
def num (t : Fin cfg5.N) : Fin 32 := ⟨t.val, N_5 ▸ t.isLt⟩

theorem emb_in (t : Fin cfg5.N) (r : Fin 256) (l : Fin 4096) :
    ((cfg5.win 0).blk t).view.emb (ix2 r l : S256x4096.Idx) = (ix2 (at256 (num t) r) l : S8192x4096.Idx) := by
  obtain ⟨e0, e1⟩ := index_in t
  funext a; apply Fin.ext
  match a with
  | ⟨0, _⟩ => show win5_0.index t (0 : Fin 2) * 256 + 1 * r.val = t.val * 256 + r.val; omega
  | ⟨1, _⟩ => show win5_0.index t (1 : Fin 2) * 4096 + 1 * l.val = l.val; omega

theorem emb_w (t : Fin cfg5.N) (r : Fin 4096) (l : Fin 4096) :
    ((cfg5.win 1).blk t).view.emb (ix2 r l : S4096x4096.Idx) = (ix2 r l : S4096x4096.Idx) := by
  obtain ⟨e0, e1⟩ := index_w t
  funext a; apply Fin.ext
  match a with
  | ⟨0, _⟩ => show win5_1.index t (0 : Fin 2) * 4096 + 1 * r.val = r.val; omega
  | ⟨1, _⟩ => show win5_1.index t (1 : Fin 2) * 4096 + 1 * l.val = l.val; omega

theorem emb_out (t : Fin cfg5.N) (r : Fin 256) (l : Fin 4096) :
    ((cfg5.win 2).blk t).view.emb (ix2 r l : S256x4096.Idx) = (ix2 (at256 (num t) r) l : S8192x4096.Idx) := by
  obtain ⟨e0, e1⟩ := index_out t
  funext a; apply Fin.ext
  match a with
  | ⟨0, _⟩ => show win5_2.index t (0 : Fin 2) * 256 + 1 * r.val = t.val * 256 + r.val; omega
  | ⟨1, _⟩ => show win5_2.index t (1 : Fin 2) * 4096 + 1 * l.val = l.val; omega

variable (V : (c : Dev nD) → (b : Ref sig .tc) → Buf (Elt Ideal) ((c : Thread nD τ).loc b))

/-- The input block holds the array's rows from row `256 t`. -/
theorem in_at (c : Dev nD) (t : Fin cfg5.N) (r : Fin 256) (l : Fin 4096) :
    (iblk5 V c 0 t : FVec Ideal S256x4096 .f32) (ix2 r l) = (V c main_v16 : FVec Ideal S8192x4096 .f32) (ix2 (at256 (num t) r) l) :=
  congrArg (V c main_v16 : FVec Ideal S8192x4096 .f32) (emb_in t r l)

/-- The weight block holds the weights. -/
theorem w_at (c : Dev nD) (t : Fin cfg5.N) (k l : Fin 4096) :
    (iblk5 V c 1 t : FVec Ideal S4096x4096 .bf16) (ix2 k l) = (V c main_v14 : FVec Ideal S4096x4096 .bf16) (ix2 k l) :=
  congrArg (V c main_v14 : FVec Ideal S4096x4096 .bf16) (emb_w t k l)

/-- What the region leaves, from its input array and the weights. -/
def G (X : FVec Ideal S8192x4096 .f32) (W : FVec Ideal S4096x4096 .bf16) : FVec Ideal S8192x4096 .f32 := norms (layers X W)

/-- Point `t` writes back its block of `G`. -/
theorem flushed_eq (c : Dev nD) (t : Fin cfg5.N) : (dat5 V c).flushed 2 t
    = ((cfg5.win 2).blk t).view.read (Elt Ideal) (G (V c main_v16) (V c main_v14)) := by
  show (cfg5.win 2).cut (grid5.coords t) ((dat5 V c).after 2 t) = _
  rw [Stage5.after_eq]
  funext j
  obtain ⟨r, l, rfl⟩ : ∃ (r : Fin 256) (l : Fin 4096), j = (ix2 r l : S256x4096.Idx) := ⟨j 0, j 1, eq_ix2 j⟩
  refine Eq.trans ?_ (congrArg (G (V c main_v16) (V c main_v14)) (emb_out t r l)).symm
  exact norm_block (num t) _ _ (layer_block (num t) _ _ _ _ (in_at V c t) (w_at V c t)) r l

/-- Every place of the result lies in the block of some point. -/
theorem covered (i : S8192x4096.Idx) : ∃ t : Fin cfg5.N, (cfg5.win 2).flush t = true ∧ i ∈ ((cfg5.win 2).blk t).view.set := by
  obtain ⟨r, l, rfl⟩ : ∃ (r : Fin 8192) (l : Fin 4096), i = ix2 r l := ⟨i 0, i 1, eq_ix2 i⟩
  have hlt : r.val / 256 < cfg5.N := by rw [show cfg5.N = 32 from N_5]; omega
  refine ⟨⟨r.val / 256, hlt⟩, flush5_2 _, ?_⟩
  have h := ((cfg5.win 2).blk ⟨r.val / 256, hlt⟩).view.emb_mem_set (ix2 (⟨r.val % 256, by omega⟩ : Fin 256) l : S256x4096.Idx)
  rw [emb_out] at h
  have e : at256 (num ⟨r.val / 256, hlt⟩) ⟨r.val % 256, by omega⟩ = r :=
    Fin.ext (by show r.val / 256 * 256 + r.val % 256 = r.val; omega)
  rwa [e] at h

/-- The result array after the region. -/
theorem final (c : Dev nD) : (dat5 V c).arrAt 2 cfg5.N = G (V c main_v16) (V c main_v14) :=
  (dat5 V c).arrAt_eq_of_cover 2 (G (V c main_v16) (V c main_v14)) (fun t _ => flushed_eq V c t) covered

end Cert.KernelIdeal.Array5

end

end
-- ==== Proof.Weight0.lean ====
/- The weights that region 0 scales. -/
module

public import Idealize.ShloMosaic.Lib.Pipeline.ValueKit
public import proofs.«01_k».proof.Proof.Gen.KernelIdeal.Frame
public import proofs.«01_k».proof.Proof.Whole

@[expose] public section

noncomputable section

namespace Cert.KernelIdeal.Weight0

open Idealize.ShloMosaic Cert.KernelIdeal Cert.KernelIdeal.Gen Cert.KernelIdeal.Whole
open Idealize.ShloMosaic.TcCoe

/-- One place of a scaled block: the weight times its column's scale. -/
theorem pay_apply (x : Vec Ideal S128x4096 .fp8e4m3) (s : Vec Ideal S1x1x4096 .f32) (r : Fin 128) (l : Fin 4096) :
    (k0_pay1 (F := Ideal) x s : FVec Ideal S128x4096 .bf16) (ix2 r l)
      = (x : FVec Ideal S128x4096 .fp8e4m3) (ix2 r l) * (s : FVec Ideal S1x1x4096 .f32) (ix3 0 0 l) := by
  pointwise [k0_pay1]

/-- What a point leaves in its result block. -/
theorem out_eq (x : Vec Ideal S128x4096 .fp8e4m3) (s : Vec Ideal S1x1x4096 .f32) : out0_2 (F := Ideal) x s = k0_pay1 x s := by
  have hz : (![0, 0] : Fin S128x4096.rank → Nat) = fun _ => 0 := funext fun a => by fin_cases a <;> rfl
  have hz3 : (![0, 0, 0] : Fin S1x1x4096.rank → Nat) = fun _ => 0 := funext fun a => by fin_cases a <;> rfl
  unfold out0_2
  rw [View.canon_unit_zero hz, View.ld_unit_zero hz, View.ld_unit_zero hz3]

/-- Where the blocks lie: point `t` takes row block `t` of the weights and scale row `t`. -/
theorem index_in : ∀ t : Fin cfg0.N, win0_0.index t (0 : Fin 2) = t.val ∧ win0_0.index t (1 : Fin 2) = 0 :=
  (by decide +kernel : ∀ t : Fin grid0.N, _)
theorem index_s : ∀ t : Fin cfg0.N, win0_1.index t (0 : Fin 3) = t.val ∧ win0_1.index t (1 : Fin 3) = 0 ∧ win0_1.index t (2 : Fin 3) = 0 :=
  (by decide +kernel : ∀ t : Fin grid0.N, _)
theorem index_out : ∀ t : Fin cfg0.N, win0_2.index t (0 : Fin 2) = t.val ∧ win0_2.index t (1 : Fin 2) = 0 :=
  (by decide +kernel : ∀ t : Fin grid0.N, _)

/-- A point of the grid as one of 32 blocks. -/
def num (t : Fin cfg0.N) : Fin 32 := ⟨t.val, N_0 ▸ t.isLt⟩

theorem emb_in (t : Fin cfg0.N) (r : Fin 128) (l : Fin 4096) :
    ((cfg0.win 0).blk t).view.emb (ix2 r l : S128x4096.Idx) = (ix2 (at128 (num t) r) l : S4096x4096.Idx) := by
  obtain ⟨e0, e1⟩ := index_in t
  funext a; apply Fin.ext
  match a with
  | ⟨0, _⟩ => show win0_0.index t (0 : Fin 2) * 128 + 1 * r.val = t.val * 128 + r.val; omega
  | ⟨1, _⟩ => show win0_0.index t (1 : Fin 2) * 4096 + 1 * l.val = l.val; omega

theorem emb_s (t : Fin cfg0.N) (l : Fin 4096) :
    ((cfg0.win 1).blk t).view.emb (ix3 0 0 l : S1x1x4096.Idx) = (ix3 (num t) 0 l : S32x1x4096.Idx) := by
  obtain ⟨e0, e1, e2⟩ := index_s t
  funext a; apply Fin.ext
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 4096 + 1 * l.val = l.val; omega

theorem emb_out (t : Fin cfg0.N) (r : Fin 128) (l : Fin 4096) :
    ((cfg0.win 2).blk t).view.emb (ix2 r l : S128x4096.Idx) = (ix2 (at128 (num t) r) l : S4096x4096.Idx) := by
  obtain ⟨e0, e1⟩ := index_out t
  funext a; apply Fin.ext
  match a with
  | ⟨0, _⟩ => show win0_2.index t (0 : Fin 2) * 128 + 1 * r.val = t.val * 128 + r.val; omega
  | ⟨1, _⟩ => show win0_2.index t (1 : Fin 2) * 4096 + 1 * l.val = l.val; omega

variable (V : (c : Dev nD) → (b : Ref sig .tc) → Buf (Elt Ideal) ((c : Thread nD τ).loc b))

theorem in_at (c : Dev nD) (t : Fin cfg0.N) (r : Fin 128) (l : Fin 4096) :
    (iblk0 V c 0 t : FVec Ideal S128x4096 .fp8e4m3) (ix2 r l)
      = (V c main_v0 : FVec Ideal S4096x4096 .fp8e4m3) (ix2 (at128 (num t) r) l) :=
  congrArg (V c main_v0 : FVec Ideal S4096x4096 .fp8e4m3) (emb_in t r l)

theorem s_at (c : Dev nD) (t : Fin cfg0.N) (l : Fin 4096) :
    (iblk0 V c 1 t : FVec Ideal S1x1x4096 .f32) (ix3 0 0 l) = (V c main_v3 : FVec Ideal S32x1x4096 .f32) (ix3 (num t) 0 l) :=
  congrArg (V c main_v3 : FVec Ideal S32x1x4096 .f32) (emb_s t l)

/-- Point `t` writes back its block of the scaled weights. -/
theorem flushed_eq (c : Dev nD) (t : Fin cfg0.N) : (dat0 V c).flushed 2 t
    = ((cfg0.win 2).blk t).view.read (Elt Ideal) (scaled (V c main_v0) (V c main_v3)) := by
  show (cfg0.win 2).cut (grid0.coords t) ((dat0 V c).after 2 t) = _
  rw [after0_2, out_eq]
  funext j
  obtain ⟨r, l, rfl⟩ : ∃ (r : Fin 128) (l : Fin 4096), j = (ix2 r l : S128x4096.Idx) := ⟨j 0, j 1, eq_ix2 j⟩
  refine Eq.trans ?_ (congrArg (scaled (V c main_v0) (V c main_v3)) (emb_out t r l)).symm
  refine (pay_apply _ _ r l).trans ?_
  exact (congrArg₂ (fun a b : EReal => a * b) (in_at V c t r l) (s_at V c t l)).trans (scaled_apply _ _ (num t) r l).symm

/-- Every place of the result lies in the block of some point. -/
theorem covered (i : S4096x4096.Idx) : ∃ t : Fin cfg0.N, (cfg0.win 2).flush t = true ∧ i ∈ ((cfg0.win 2).blk t).view.set := by
  obtain ⟨r, l, rfl⟩ : ∃ (r : Fin 4096) (l : Fin 4096), i = ix2 r l := ⟨i 0, i 1, eq_ix2 i⟩
  have hlt : r.val / 128 < cfg0.N := by rw [show cfg0.N = 32 from N_0]; omega
  refine ⟨⟨r.val / 128, hlt⟩, flush0_2 _, ?_⟩
  have h := ((cfg0.win 2).blk ⟨r.val / 128, hlt⟩).view.emb_mem_set (ix2 (⟨r.val % 128, by omega⟩ : Fin 128) l : S128x4096.Idx)
  rw [emb_out] at h
  have e : at128 (num ⟨r.val / 128, hlt⟩) ⟨r.val % 128, by omega⟩ = r :=
    Fin.ext (by show r.val / 128 * 128 + r.val % 128 = r.val; omega)
  rwa [e] at h

/-- The scaled weights after the region. -/
theorem final (c : Dev nD) : (dat0 V c).arrAt 2 cfg0.N = scaled (V c main_v0) (V c main_v3) :=
  (dat0 V c).arrAt_eq_of_cover 2 (scaled (V c main_v0) (V c main_v3)) (fun t _ => flushed_eq V c t) covered

end Cert.KernelIdeal.Weight0

end

end
-- ==== Proof.Weight1.lean ====
/- The weights that region 1 scales. -/
module

public import Idealize.ShloMosaic.Lib.Pipeline.ValueKit
public import proofs.«01_k».proof.Proof.Gen.KernelIdeal.Frame
public import proofs.«01_k».proof.Proof.Whole

@[expose] public section

noncomputable section

namespace Cert.KernelIdeal.Weight1

open Idealize.ShloMosaic Cert.KernelIdeal Cert.KernelIdeal.Gen Cert.KernelIdeal.Whole
open Idealize.ShloMosaic.TcCoe

/-- One place of a scaled block: the weight times its column's scale. -/
theorem pay_apply (x : Vec Ideal S128x4096 .fp8e4m3) (s : Vec Ideal S1x1x4096 .f32) (r : Fin 128) (l : Fin 4096) :
    (k1_pay1 (F := Ideal) x s : FVec Ideal S128x4096 .bf16) (ix2 r l)
      = (x : FVec Ideal S128x4096 .fp8e4m3) (ix2 r l) * (s : FVec Ideal S1x1x4096 .f32) (ix3 0 0 l) := by
  pointwise [k1_pay1]

/-- What a point leaves in its result block. -/
theorem out_eq (x : Vec Ideal S128x4096 .fp8e4m3) (s : Vec Ideal S1x1x4096 .f32) : out1_2 (F := Ideal) x s = k1_pay1 x s := by
  have hz : (![0, 0] : Fin S128x4096.rank → Nat) = fun _ => 0 := funext fun a => by fin_cases a <;> rfl
  have hz3 : (![0, 0, 0] : Fin S1x1x4096.rank → Nat) = fun _ => 0 := funext fun a => by fin_cases a <;> rfl
  unfold out1_2
  rw [View.canon_unit_zero hz, View.ld_unit_zero hz, View.ld_unit_zero hz3]

/-- Where the blocks lie: point `t` takes row block `t` of the weights and scale row `t`. -/
theorem index_in : ∀ t : Fin cfg1.N, win1_0.index t (0 : Fin 2) = t.val ∧ win1_0.index t (1 : Fin 2) = 0 :=
  (by decide +kernel : ∀ t : Fin grid1.N, _)
theorem index_s : ∀ t : Fin cfg1.N, win1_1.index t (0 : Fin 3) = t.val ∧ win1_1.index t (1 : Fin 3) = 0 ∧ win1_1.index t (2 : Fin 3) = 0 :=
  (by decide +kernel : ∀ t : Fin grid1.N, _)
theorem index_out : ∀ t : Fin cfg1.N, win1_2.index t (0 : Fin 2) = t.val ∧ win1_2.index t (1 : Fin 2) = 0 :=
  (by decide +kernel : ∀ t : Fin grid1.N, _)

/-- A point of the grid as one of 32 blocks. -/
def num (t : Fin cfg1.N) : Fin 32 := ⟨t.val, N_1 ▸ t.isLt⟩

theorem emb_in (t : Fin cfg1.N) (r : Fin 128) (l : Fin 4096) :
    ((cfg1.win 0).blk t).view.emb (ix2 r l : S128x4096.Idx) = (ix2 (at128 (num t) r) l : S4096x4096.Idx) := by
  obtain ⟨e0, e1⟩ := index_in t
  funext a; apply Fin.ext
  match a with
  | ⟨0, _⟩ => show win1_0.index t (0 : Fin 2) * 128 + 1 * r.val = t.val * 128 + r.val; omega
  | ⟨1, _⟩ => show win1_0.index t (1 : Fin 2) * 4096 + 1 * l.val = l.val; omega

theorem emb_s (t : Fin cfg1.N) (l : Fin 4096) :
    ((cfg1.win 1).blk t).view.emb (ix3 0 0 l : S1x1x4096.Idx) = (ix3 (num t) 0 l : S32x1x4096.Idx) := by
  obtain ⟨e0, e1, e2⟩ := index_s t
  funext a; apply Fin.ext
  match a with
  | ⟨0, _⟩ => show win1_1.index t (0 : Fin 3) * 1 + 1 * 0 = t.val; omega
  | ⟨1, _⟩ => show win1_1.index t (1 : Fin 3) * 1 + 1 * 0 = 0; omega
  | ⟨2, _⟩ => show win1_1.index t (2 : Fin 3) * 4096 + 1 * l.val = l.val; omega

theorem emb_out (t : Fin cfg1.N) (r : Fin 128) (l : Fin 4096) :
    ((cfg1.win 2).blk t).view.emb (ix2 r l : S128x4096.Idx) = (ix2 (at128 (num t) r) l : S4096x4096.Idx) := by
  obtain ⟨e0, e1⟩ := index_out t
  funext a; apply Fin.ext
  match a with
  | ⟨0, _⟩ => show win1_2.index t (0 : Fin 2) * 128 + 1 * r.val = t.val * 128 + r.val; omega
  | ⟨1, _⟩ => show win1_2.index t (1 : Fin 2) * 4096 + 1 * l.val = l.val; omega

variable (V : (c : Dev nD) → (b : Ref sig .tc) → Buf (Elt Ideal) ((c : Thread nD τ).loc b))

theorem in_at (c : Dev nD) (t : Fin cfg1.N) (r : Fin 128) (l : Fin 4096) :
    (iblk1 V c 0 t : FVec Ideal S128x4096 .fp8e4m3) (ix2 r l)
      = (V c main_v5 : FVec Ideal S4096x4096 .fp8e4m3) (ix2 (at128 (num t) r) l) :=
  congrArg (V c main_v5 : FVec Ideal S4096x4096 .fp8e4m3) (emb_in t r l)

theorem s_at (c : Dev nD) (t : Fin cfg1.N) (l : Fin 4096) :
    (iblk1 V c 1 t : FVec Ideal S1x1x4096 .f32) (ix3 0 0 l) = (V c main_v8 : FVec Ideal S32x1x4096 .f32) (ix3 (num t) 0 l) :=
  congrArg (V c main_v8 : FVec Ideal S32x1x4096 .f32) (emb_s t l)

/-- Point `t` writes back its block of the scaled weights. -/
theorem flushed_eq (c : Dev nD) (t : Fin cfg1.N) : (dat1 V c).flushed 2 t
    = ((cfg1.win 2).blk t).view.read (Elt Ideal) (scaled (V c main_v5) (V c main_v8)) := by
  show (cfg1.win 2).cut (grid1.coords t) ((dat1 V c).after 2 t) = _
  rw [after1_2, out_eq]
  funext j
  obtain ⟨r, l, rfl⟩ : ∃ (r : Fin 128) (l : Fin 4096), j = (ix2 r l : S128x4096.Idx) := ⟨j 0, j 1, eq_ix2 j⟩
  refine Eq.trans ?_ (congrArg (scaled (V c main_v5) (V c main_v8)) (emb_out t r l)).symm
  refine (pay_apply _ _ r l).trans ?_
  exact (congrArg₂ (fun a b : EReal => a * b) (in_at V c t r l) (s_at V c t l)).trans (scaled_apply _ _ (num t) r l).symm

/-- Every place of the result lies in the block of some point. -/
theorem covered (i : S4096x4096.Idx) : ∃ t : Fin cfg1.N, (cfg1.win 2).flush t = true ∧ i ∈ ((cfg1.win 2).blk t).view.set := by
  obtain ⟨r, l, rfl⟩ : ∃ (r : Fin 4096) (l : Fin 4096), i = ix2 r l := ⟨i 0, i 1, eq_ix2 i⟩
  have hlt : r.val / 128 < cfg1.N := by rw [show cfg1.N = 32 from N_1]; omega
  refine ⟨⟨r.val / 128, hlt⟩, flush1_2 _, ?_⟩
  have h := ((cfg1.win 2).blk ⟨r.val / 128, hlt⟩).view.emb_mem_set (ix2 (⟨r.val % 128, by omega⟩ : Fin 128) l : S128x4096.Idx)
  rw [emb_out] at h
  have e : at128 (num ⟨r.val / 128, hlt⟩) ⟨r.val % 128, by omega⟩ = r :=
    Fin.ext (by show r.val / 128 * 128 + r.val % 128 = r.val; omega)
  rwa [e] at h

/-- The scaled weights after the region. -/
theorem final (c : Dev nD) : (dat1 V c).arrAt 2 cfg1.N = scaled (V c main_v5) (V c main_v8) :=
  (dat1 V c).arrAt_eq_of_cover 2 (scaled (V c main_v5) (V c main_v8)) (fun t _ => flushed_eq V c t) covered

end Cert.KernelIdeal.Weight1

end

end
-- ==== Proof.Weight2.lean ====
/- The weights that region 2 scales. -/
module

public import Idealize.ShloMosaic.Lib.Pipeline.ValueKit
public import proofs.«01_k».proof.Proof.Gen.KernelIdeal.Frame
public import proofs.«01_k».proof.Proof.Whole

@[expose] public section

noncomputable section

namespace Cert.KernelIdeal.Weight2

open Idealize.ShloMosaic Cert.KernelIdeal Cert.KernelIdeal.Gen Cert.KernelIdeal.Whole
open Idealize.ShloMosaic.TcCoe

/-- One place of a scaled block: the weight times its column's scale. -/
theorem pay_apply (x : Vec Ideal S128x4096 .fp8e4m3) (s : Vec Ideal S1x1x4096 .f32) (r : Fin 128) (l : Fin 4096) :
    (k2_pay1 (F := Ideal) x s : FVec Ideal S128x4096 .bf16) (ix2 r l)
      = (x : FVec Ideal S128x4096 .fp8e4m3) (ix2 r l) * (s : FVec Ideal S1x1x4096 .f32) (ix3 0 0 l) := by
  pointwise [k2_pay1]

/-- What a point leaves in its result block. -/
theorem out_eq (x : Vec Ideal S128x4096 .fp8e4m3) (s : Vec Ideal S1x1x4096 .f32) : out2_2 (F := Ideal) x s = k2_pay1 x s := by
  have hz : (![0, 0] : Fin S128x4096.rank → Nat) = fun _ => 0 := funext fun a => by fin_cases a <;> rfl
  have hz3 : (![0, 0, 0] : Fin S1x1x4096.rank → Nat) = fun _ => 0 := funext fun a => by fin_cases a <;> rfl
  unfold out2_2
  rw [View.canon_unit_zero hz, View.ld_unit_zero hz, View.ld_unit_zero hz3]

/-- Where the blocks lie: point `t` takes row block `t` of the weights and scale row `t`. -/
theorem index_in : ∀ t : Fin cfg2.N, win2_0.index t (0 : Fin 2) = t.val ∧ win2_0.index t (1 : Fin 2) = 0 :=
  (by decide +kernel : ∀ t : Fin grid2.N, _)
theorem index_s : ∀ t : Fin cfg2.N, win2_1.index t (0 : Fin 3) = t.val ∧ win2_1.index t (1 : Fin 3) = 0 ∧ win2_1.index t (2 : Fin 3) = 0 :=
  (by decide +kernel : ∀ t : Fin grid2.N, _)
theorem index_out : ∀ t : Fin cfg2.N, win2_2.index t (0 : Fin 2) = t.val ∧ win2_2.index t (1 : Fin 2) = 0 :=
  (by decide +kernel : ∀ t : Fin grid2.N, _)

/-- A point of the grid as one of 32 blocks. -/
def num (t : Fin cfg2.N) : Fin 32 := ⟨t.val, N_2 ▸ t.isLt⟩

theorem emb_in (t : Fin cfg2.N) (r : Fin 128) (l : Fin 4096) :
    ((cfg2.win 0).blk t).view.emb (ix2 r l : S128x4096.Idx) = (ix2 (at128 (num t) r) l : S4096x4096.Idx) := by
  obtain ⟨e0, e1⟩ := index_in t
  funext a; apply Fin.ext
  match a with
  | ⟨0, _⟩ => show win2_0.index t (0 : Fin 2) * 128 + 1 * r.val = t.val * 128 + r.val; omega
  | ⟨1, _⟩ => show win2_0.index t (1 : Fin 2) * 4096 + 1 * l.val = l.val; omega

theorem emb_s (t : Fin cfg2.N) (l : Fin 4096) :
    ((cfg2.win 1).blk t).view.emb (ix3 0 0 l : S1x1x4096.Idx) = (ix3 (num t) 0 l : S32x1x4096.Idx) := by
  obtain ⟨e0, e1, e2⟩ := index_s t
  funext a; apply Fin.ext
  match a with
  | ⟨0, _⟩ => show win2_1.index t (0 : Fin 3) * 1 + 1 * 0 = t.val; omega
  | ⟨1, _⟩ => show win2_1.index t (1 : Fin 3) * 1 + 1 * 0 = 0; omega
  | ⟨2, _⟩ => show win2_1.index t (2 : Fin 3) * 4096 + 1 * l.val = l.val; omega

theorem emb_out (t : Fin cfg2.N) (r : Fin 128) (l : Fin 4096) :
    ((cfg2.win 2).blk t).view.emb (ix2 r l : S128x4096.Idx) = (ix2 (at128 (num t) r) l : S4096x4096.Idx) := by
  obtain ⟨e0, e1⟩ := index_out t
  funext a; apply Fin.ext
  match a with
  | ⟨0, _⟩ => show win2_2.index t (0 : Fin 2) * 128 + 1 * r.val = t.val * 128 + r.val; omega
  | ⟨1, _⟩ => show win2_2.index t (1 : Fin 2) * 4096 + 1 * l.val = l.val; omega

variable (V : (c : Dev nD) → (b : Ref sig .tc) → Buf (Elt Ideal) ((c : Thread nD τ).loc b))

theorem in_at (c : Dev nD) (t : Fin cfg2.N) (r : Fin 128) (l : Fin 4096) :
    (iblk2 V c 0 t : FVec Ideal S128x4096 .fp8e4m3) (ix2 r l)
      = (V c main_v10 : FVec Ideal S4096x4096 .fp8e4m3) (ix2 (at128 (num t) r) l) :=
  congrArg (V c main_v10 : FVec Ideal S4096x4096 .fp8e4m3) (emb_in t r l)

theorem s_at (c : Dev nD) (t : Fin cfg2.N) (l : Fin 4096) :
    (iblk2 V c 1 t : FVec Ideal S1x1x4096 .f32) (ix3 0 0 l) = (V c main_v13 : FVec Ideal S32x1x4096 .f32) (ix3 (num t) 0 l) :=
  congrArg (V c main_v13 : FVec Ideal S32x1x4096 .f32) (emb_s t l)

/-- Point `t` writes back its block of the scaled weights. -/
theorem flushed_eq (c : Dev nD) (t : Fin cfg2.N) : (dat2 V c).flushed 2 t
    = ((cfg2.win 2).blk t).view.read (Elt Ideal) (scaled (V c main_v10) (V c main_v13)) := by
  show (cfg2.win 2).cut (grid2.coords t) ((dat2 V c).after 2 t) = _
  rw [after2_2, out_eq]
  funext j
  obtain ⟨r, l, rfl⟩ : ∃ (r : Fin 128) (l : Fin 4096), j = (ix2 r l : S128x4096.Idx) := ⟨j 0, j 1, eq_ix2 j⟩
  refine Eq.trans ?_ (congrArg (scaled (V c main_v10) (V c main_v13)) (emb_out t r l)).symm
  refine (pay_apply _ _ r l).trans ?_
  exact (congrArg₂ (fun a b : EReal => a * b) (in_at V c t r l) (s_at V c t l)).trans (scaled_apply _ _ (num t) r l).symm

/-- Every place of the result lies in the block of some point. -/
theorem covered (i : S4096x4096.Idx) : ∃ t : Fin cfg2.N, (cfg2.win 2).flush t = true ∧ i ∈ ((cfg2.win 2).blk t).view.set := by
  obtain ⟨r, l, rfl⟩ : ∃ (r : Fin 4096) (l : Fin 4096), i = ix2 r l := ⟨i 0, i 1, eq_ix2 i⟩
  have hlt : r.val / 128 < cfg2.N := by rw [show cfg2.N = 32 from N_2]; omega
  refine ⟨⟨r.val / 128, hlt⟩, flush2_2 _, ?_⟩
  have h := ((cfg2.win 2).blk ⟨r.val / 128, hlt⟩).view.emb_mem_set (ix2 (⟨r.val % 128, by omega⟩ : Fin 128) l : S128x4096.Idx)
  rw [emb_out] at h
  have e : at128 (num ⟨r.val / 128, hlt⟩) ⟨r.val % 128, by omega⟩ = r :=
    Fin.ext (by show r.val / 128 * 128 + r.val % 128 = r.val; omega)
  rwa [e] at h

/-- The scaled weights after the region. -/
theorem final (c : Dev nD) : (dat2 V c).arrAt 2 cfg2.N = scaled (V c main_v10) (V c main_v13) :=
  (dat2 V c).arrAt_eq_of_cover 2 (scaled (V c main_v10) (V c main_v13)) (fun t _ => flushed_eq V c t) covered

end Cert.KernelIdeal.Weight2

end

end
-- ==== Proof.Host.lean ====
/- What the host operations hand the weight regions: the weights themselves, and the block scales spread over columns. -/
module

public import Idealize.ShloMosaic.Lib.Pointwise
public import Idealize.ShloMosaic.Lib.StableHlo.Run
public import proofs.«01_k».proof.Proof.Gen.KernelIdeal.Frame
public import proofs.«01_k».proof.Proof.Whole

@[expose] public section

noncomputable section

namespace Cert.KernelIdeal.Launched

open Idealize.ShloMosaic Cert.KernelIdeal Cert.KernelIdeal.Gen Cert.KernelIdeal.Whole
open Idealize.ShloMosaic.TcCoe

/-- The block scales, each repeated over its 128 columns, one row per row block. -/
def spread (s : FVec Ideal S32x32 .f32) : FVec Ideal S32x1x4096 .f32 :=
  shapeCast S32x1x4096 (shapeCast S32x4096 (broadcastInDim S32x32x128 ![0, 1] bcast_S32x32_S32x32x128_0_1 s) shapeCasts_S32x32x128_S32x4096)
    shapeCasts_S32x4096_S32x1x4096

/-- Row `g`, column `l` of the spread scales is the scale of block `g, l / 128`. -/
theorem spread_apply (s : FVec Ideal S32x32 .f32) (g : Fin 32) (l : Fin 4096) :
    spread s (ix3 g 0 l) = s (ix2 g (Cert.Spec.grp l)) := by
  pointwise [spread]
  rfl

/-- The weights narrowed to eight bits. -/
def narrow (A : FVec Ideal S4096x4096 .f32) : FVec Ideal S4096x4096 .fp8e4m3 := Host.convertf .fp8e4m3 A

/-- The weights times their block scales, as an array. -/
def weights (A : FVec Ideal S4096x4096 .f32) (s : FVec Ideal S32x32 .f32) : FVec Ideal S4096x4096 .bf16 :=
  fun i => Cert.Spec.weight (fun k c => A (ix2 k c)) (fun g h => s (ix2 g h)) (i 0) (i 1)

/-- Narrowing the weights leaves them, so scaling by the spread scales gives the weights times their block scales. -/
theorem scaled_eq (A : FVec Ideal S4096x4096 .f32) (s : FVec Ideal S32x32 .f32) :
    scaled (narrow A) (spread s) = weights A s := by
  funext i
  obtain ⟨r, l, rfl⟩ : ∃ (r : Fin 4096) (l : Fin 4096), i = ix2 r l := ⟨i 0, i 1, eq_ix2 i⟩
  show (A (ix2 r l) : EReal) * spread s (ix3 (Cert.Spec.grp r) 0 l) = _
  rw [spread_apply]
  rfl

variable (W : Valuation τ sig (Elt Ideal))

/-- What the operations before region 0 leave in its two input arrays. -/
theorem w0_eq : StableHlo.after hostOps0 W (Proc.devRef .tc main_v0)
    = narrow (W (Proc.devRef .tc main_arg1)) := by
  after_results
  rfl
theorem s0_eq : StableHlo.after hostOps0 W (Proc.devRef .tc main_v3) = spread (W (Proc.devRef .tc main_arg4)) := by
  after_results
  rfl

/-- What the operations before region 1 leave in its two input arrays. -/
theorem w1_eq : StableHlo.after hostOps1 W (Proc.devRef .tc main_v5)
    = narrow (W (Proc.devRef .tc main_arg2)) := by
  after_results
  rfl
theorem s1_eq : StableHlo.after hostOps1 W (Proc.devRef .tc main_v8) = spread (W (Proc.devRef .tc main_arg5)) := by
  after_results
  rfl

/-- What the operations before region 2 leave in its two input arrays. -/
theorem w2_eq : StableHlo.after hostOps2 W (Proc.devRef .tc main_v10)
    = narrow (W (Proc.devRef .tc main_arg3)) := by
  after_results
  rfl
theorem s2_eq : StableHlo.after hostOps2 W (Proc.devRef .tc main_v13) = spread (W (Proc.devRef .tc main_arg6)) := by
  after_results
  rfl

end Cert.KernelIdeal.Launched

end

end
-- ==== Proof.Chain.lean ====
/- The contents of the kernel's arrays from region to region, and its result as one function of the arguments. -/
module

public import proofs.«01_k».proof.Proof.Array3
public import proofs.«01_k».proof.Proof.Array4
public import proofs.«01_k».proof.Proof.Array5
public import proofs.«01_k».proof.Proof.Weight0
public import proofs.«01_k».proof.Proof.Weight1
public import proofs.«01_k».proof.Proof.Weight2
public import proofs.«01_k».proof.Proof.Host

@[expose] public section

noncomputable section

namespace Cert.KernelIdeal.Chain

open Idealize.ShloMosaic Cert.KernelIdeal Cert.KernelIdeal.Gen Cert.KernelIdeal.Whole Cert.KernelIdeal.Launched
open Idealize.ShloMosaic.TcCoe

/-- The result from the input, the three weights and their block scales. -/
def result (x : FVec Ideal S8192x4096 .f32) (w0 w1 w2 : FVec Ideal S4096x4096 .f32) (s0 s1 s2 : FVec Ideal S32x32 .f32) :
    FVec Ideal S8192x4096 .f32 :=
  norms (layers (layers (layers (pos x) (weights w0 s0)) (weights w1 s1)) (weights w2 s2))

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-- Region 0 leaves the scaled weights of the launch. -/
theorem weight0 : W2 m ρ c (Proc.devRef .tc main_v4) = weights (arg m c main_arg1) (arg m c main_arg4) := by
  refine (W2_arr m ρ c 2).trans ((Weight0.final (V1 m ρ) c).trans ?_)
  have ew : V1 m ρ c main_v0 = narrow (arg m c main_arg1) :=
    (w0_eq (W0 m ρ c)).trans (congrArg narrow (W0_args m ρ c main_arg1 (by decide)))
  have es : V1 m ρ c main_v3 = spread (arg m c main_arg4) :=
    (s0_eq (W0 m ρ c)).trans (congrArg spread (W0_args m ρ c main_arg4 (by decide)))
  rw [ew, es]
  exact scaled_eq _ _

/-- Region 1 leaves the scaled weights of the launch. -/
theorem weight1 : W4 m ρ c (Proc.devRef .tc main_v9) = weights (arg m c main_arg2) (arg m c main_arg5) := by
  refine (W4_arr m ρ c 2).trans ((Weight1.final (V3 m ρ) c).trans ?_)
  have ew : V3 m ρ c main_v5 = narrow (arg m c main_arg2) :=
    (w1_eq (W2 m ρ c)).trans (congrArg narrow (W2_args m ρ c main_arg2 (by decide)))
  have es : V3 m ρ c main_v8 = spread (arg m c main_arg5) :=
    (s1_eq (W2 m ρ c)).trans (congrArg spread (W2_args m ρ c main_arg5 (by decide)))
  rw [ew, es]
  exact scaled_eq _ _

/-- Region 2 leaves the scaled weights of the launch. -/
theorem weight2 : W6 m ρ c (Proc.devRef .tc main_v14) = weights (arg m c main_arg3) (arg m c main_arg6) := by
  refine (W6_arr m ρ c 2).trans ((Weight2.final (V5 m ρ) c).trans ?_)
  have ew : V5 m ρ c main_v10 = narrow (arg m c main_arg3) :=
    (w2_eq (W4 m ρ c)).trans (congrArg narrow (W4_args m ρ c main_arg3 (by decide)))
  have es : V5 m ρ c main_v13 = spread (arg m c main_arg6) :=
    (s2_eq (W4 m ρ c)).trans (congrArg spread (W4_args m ρ c main_arg6 (by decide)))
  rw [ew, es]
  exact scaled_eq _ _

/-- The first scaled weights stay until region 3. -/
theorem kept0 : V6 m ρ c main_v4 = W2 m ρ c (Proc.devRef .tc main_v4) :=
  ((W6_of m ρ c main_v4 (by decide +kernel)).trans ((W5_of m ρ c main_v4 (by decide)).trans ((W4_of m ρ c main_v4 (by decide +kernel)).trans (W3_of m ρ c main_v4 (by decide)))))

/-- The second scaled weights stay until region 4. -/
theorem kept1 : V7 m ρ c main_v9 = W4 m ρ c (Proc.devRef .tc main_v9) :=
  ((W7_of m ρ c main_v9 (by decide +kernel)).trans ((W6_of m ρ c main_v9 (by decide +kernel)).trans (W5_of m ρ c main_v9 (by decide))))

/-- The third scaled weights stay until region 5. -/
theorem kept2 : V8 m ρ c main_v14 = W6 m ρ c (Proc.devRef .tc main_v14) :=
  ((W8_of m ρ c main_v14 (by decide +kernel)).trans (W7_of m ρ c main_v14 (by decide +kernel)))

/-- Region 3 leaves the first layer. -/
theorem stage3 : W7 m ρ c (Proc.devRef .tc main_v15)
    = layers (pos (arg m c main_arg0)) (weights (arg m c main_arg1) (arg m c main_arg4)) := by
  refine (W7_arr m ρ c 2).trans ((Array3.final (V6 m ρ) c).trans ?_)
  rw [show V6 m ρ c main_arg0 = arg m c main_arg0 from W6_args m ρ c main_arg0 (by decide), kept0, weight0]
  rfl

/-- Region 4 leaves the second layer. -/
theorem stage4 : W8 m ρ c (Proc.devRef .tc main_v16)
    = layers (layers (pos (arg m c main_arg0)) (weights (arg m c main_arg1) (arg m c main_arg4)))
        (weights (arg m c main_arg2) (arg m c main_arg5)) := by
  refine (W8_arr m ρ c 2).trans ((Array4.final (V7 m ρ) c).trans ?_)
  rw [show V7 m ρ c main_v15 = _ from stage3 m ρ c, kept1, weight1]
  rfl

/-- Region 5 leaves the result. -/
theorem stage5 : W9 m ρ c (Proc.devRef .tc main_v17)
    = result (arg m c main_arg0) (arg m c main_arg1) (arg m c main_arg2) (arg m c main_arg3)
        (arg m c main_arg4) (arg m c main_arg5) (arg m c main_arg6) := by
  refine (W9_arr m ρ c 2).trans ((Array5.final (V8 m ρ) c).trans ?_)
  rw [show V8 m ρ c main_v16 = _ from stage4 m ρ c, kept2, weight2]
  rfl

end Cert.KernelIdeal.Chain

end

end
-- ==== Proof.RefParts.lean ====
/- The reference's vector expressions, read one place at a time. -/
module

public import Idealize.ShloMosaic.Lib.Pointwise
public import proofs.«01_k».proof.Proof.Gen.ReferenceIdeal.Skeleton
public import proofs.«01_k».proof.Proof.Consts

@[expose] public section

noncomputable section

namespace Cert.ReferenceIdeal.Parts

open Idealize.ShloMosaic Cert.ReferenceIdeal Cert.ReferenceIdeal.Gen

/-- Row `r` of an array. -/
def row (x : FVec Ideal S8192x4096 .f32) (r : Fin 8192) : Cert.Spec.Row := fun c => x (ix2 r c)

/-- The mean square of every row. -/
def meanSq (x : FVec Ideal S8192x4096 .f32) : FVec Ideal S8192x1 .f32 :=
  divf (shapeCast S8192x1 (multiReduction .add [1] S8192 (mulf x x) 0x00000000#32 reduces_S8192x4096_S8192 (.inl rfl) rfl) shapeCasts_S8192_S8192x1)
    (broadcast S8192x1 (FloatOps.ofBits .f32 0x45800000#32))

/-- Every row divided by its root, times the norm weights. -/
def normed (x : FVec Ideal S8192x4096 .f32) (n : FVec Ideal S4096 .f32) : FVec Ideal S8192x4096 .f32 :=
  mulf (mulf x (broadcastTo S8192x4096 (rsqrt (addf (meanSq x) (broadcast S8192x1 (FloatOps.ofBits .f32 0x358637BD#32)))) broadcasts_S8192x1_S8192x4096))
    (broadcastTo S8192x4096 (shapeCast S1x4096 n shapeCasts_S4096_S1x4096) broadcasts_S1x4096_S8192x4096)

/-- With norm weights of one, this is the row's normalisation. -/
theorem normed_apply (x : FVec Ideal S8192x4096 .f32) (n : FVec Ideal S4096 .f32) (hn : ∀ l, n (ix1 l) = 1) (r : Fin 8192) (l : Fin 4096) :
    normed x n (ix2 r l) = Cert.Spec.norm (row x r) l := by
  pointwise [normed, meanSq]
  rw [hn, mul_one, Cert.Spec.div_4096]
  rfl

/-- The columns in groups of 128. -/
def split (y : FVec Ideal S8192x4096 .f32) : FVec Ideal S8192x32x128 .f32 := shapeCast S8192x32x128 y shapeCasts_S8192x4096_S8192x32x128

theorem split_apply (y : FVec Ideal S8192x4096 .f32) (r : Fin 8192) (g : Fin 32) (j : Fin 128) :
    split y (ix3 r g j) = row y r (Cert.Spec.col g j) := by
  pointwise [split]
  exact congrArg (fun c => y (ix2 r c)) (Fin.ext (by show g.val * 128 + j.val = 128 * g.val + j.val; omega))

/-- The greatest magnitude in every group. -/
def mags (z : FVec Ideal S8192x32x128 .f32) : FVec Ideal S8192x32 .f32 :=
  multiReduction .maximumf [2] S8192x32 (absf z) 0xFF800000#32 reduces_S8192x32x128_S8192x32 (.inl rfl) rfl

theorem mags_apply (z : FVec Ideal S8192x32x128 .f32) (r : Fin 8192) (g : Fin 32) :
    mags z (ix2 r g) = Finset.univ.fold max Cert.Spec.start fun j => Cert.Spec.mag (z (ix3 r g j)) := by
  pointwise [mags]
  rfl

/-- The scale of every group, from its greatest magnitude. -/
def scaleOf (a : FVec Ideal S8192x32 .f32) : FVec Ideal S8192x32x1 .f32 :=
  divf (maximumf (shapeCast S8192x32x1 a shapeCasts_S8192x32_S8192x32x1) (broadcast S8192x32x1 (FloatOps.ofBits .f32 0x38D1B717#32)))
    (broadcast S8192x32x1 (FloatOps.ofBits .f32 0x43E00000#32))

theorem scaleOf_apply (a : FVec Ideal S8192x32 .f32) (r : Fin 8192) (g : Fin 32) :
    scaleOf a (ix3 r g 0) = max (a (ix2 r g)) Cert.Spec.floorMag * ((1 / 448 : ℝ) : EReal) := by
  pointwise [scaleOf]
  rw [Cert.Spec.div_448]
  rfl

/-- The scale of every group. -/
def scales (z : FVec Ideal S8192x32x128 .f32) : FVec Ideal S8192x32x1 .f32 := scaleOf (mags z)

theorem scales_apply (y : FVec Ideal S8192x4096 .f32) (r : Fin 8192) (g : Fin 32) :
    scales (split y) (ix3 r g 0) = Cert.Spec.scale (row y r) g := by
  have e : mags (split y) (ix2 r g) = Cert.Spec.amax (row y r) g := by
    rw [mags_apply]
    simp only [split_apply]
    rfl
  unfold scales Cert.Spec.scale
  rw [scaleOf_apply, e]

/-- Groups divided by their scales, narrowed, widened, and multiplied by them again, as rows. -/
def requantBy (z : FVec Ideal S8192x32x128 .f32) (a : FVec Ideal S8192x32x1 .f32) : FVec Ideal S8192x4096 .f32 :=
  shapeCast S8192x4096 (mulf (extf .f32 (truncf .fp8e4m3 (divf z
      (broadcastTo S8192x32x128 a broadcasts_S8192x32x1_S8192x32x128)) bitsLt_fp8e4m3_f32) bitsLt_fp8e4m3_f32)
    (broadcastTo S8192x32x128 a broadcasts_S8192x32x1_S8192x32x128)) shapeCasts_S8192x32x128_S8192x4096

theorem requantBy_apply (z : FVec Ideal S8192x32x128 .f32) (a : FVec Ideal S8192x32x1 .f32) (r : Fin 8192) (l : Fin 4096) :
    requantBy z a (ix2 r l) = Ideal.div (z (ix3 r (Cert.Spec.grp l) ⟨l.val % 128, by omega⟩)) (a (ix3 r (Cert.Spec.grp l) 0))
      * a (ix3 r (Cert.Spec.grp l) 0) := by
  pointwise [requantBy]
  rfl

/-- The rows scaled down group by group and back up. -/
def requanted (y : FVec Ideal S8192x4096 .f32) : FVec Ideal S8192x4096 .f32 := requantBy (split y) (scales (split y))

theorem requanted_apply (y : FVec Ideal S8192x4096 .f32) (r : Fin 8192) (l : Fin 4096) :
    requanted y (ix2 r l) = Cert.Spec.requant (row y r) l := by
  have e : Cert.Spec.col (Cert.Spec.grp l) ⟨l.val % 128, by omega⟩ = l :=
    Fin.ext (by show 128 * (l.val / 128) + l.val % 128 = l.val; omega)
  unfold requanted Cert.Spec.requant
  rw [requantBy_apply, scales_apply, split_apply, e]

/-- The weights times their block scales. -/
def weighted (w : FVec Ideal S4096x4096 .f32) (s : FVec Ideal S32x32 .f32) : FVec Ideal S4096x4096 .f32 :=
  mulf w (shapeCast S4096x4096 (broadcastTo S4096x32x128 (shapeCast S4096x32x1 (shapeCast S4096x32
    (broadcastTo S32x128x32 (shapeCast S32x1x32 s shapeCasts_S32x32_S32x1x32) broadcasts_S32x1x32_S32x128x32) shapeCasts_S32x128x32_S4096x32)
    shapeCasts_S4096x32_S4096x32x1) broadcasts_S4096x32x1_S4096x32x128) shapeCasts_S4096x32x128_S4096x4096)

theorem weighted_apply (w : FVec Ideal S4096x4096 .f32) (s : FVec Ideal S32x32 .f32) (k l : Fin 4096) :
    weighted w s (ix2 k l) = Cert.Spec.weight (fun k c => w (ix2 k c)) (fun g h => s (ix2 g h)) k l := by
  pointwise [weighted]
  rfl

/-- A product of rows and weights added to the rows that came in. -/
def added (q x : FVec Ideal S8192x4096 .f32) (w : FVec Ideal S4096x4096 .f32) : FVec Ideal S8192x4096 .f32 :=
  addf (matmul dot_S8192x4096_S4096x4096_S8192x4096_1_0_0_1_n_n none q w (constant S8192x4096 .f32 0x00000000#32)) x

theorem added_apply (q x : FVec Ideal S8192x4096 .f32) (w : FVec Ideal S4096x4096 .f32) (r : Fin 8192) (l : Fin 4096) :
    added q x w (ix2 r l) = x (ix2 r l) + ∑ k, q (ix2 r k) * w (ix2 k l) := by
  rw [add_comm]
  pointwise [added]

/-- One layer. -/
def layered (x : FVec Ideal S8192x4096 .f32) (n : FVec Ideal S4096 .f32) (w : FVec Ideal S4096x4096 .f32) (s : FVec Ideal S32x32 .f32) :
    FVec Ideal S8192x4096 .f32 := added (requanted (normed x n)) x (weighted w s)

/-- With norm weights of one, this is the layer of every row. -/
theorem layered_apply (x : FVec Ideal S8192x4096 .f32) (n : FVec Ideal S4096 .f32) (hn : ∀ l, n (ix1 l) = 1) (w : FVec Ideal S4096x4096 .f32)
    (s : FVec Ideal S32x32 .f32) (r : Fin 8192) (l : Fin 4096) :
    layered x n w s (ix2 r l)
      = Cert.Spec.layer (row x r) (Cert.Spec.weight (fun k c => w (ix2 k c)) (fun g h => s (ix2 g h))) l := by
  have e : row (normed x n) r = Cert.Spec.norm (row x r) := funext fun c => normed_apply x n hn r c
  unfold layered Cert.Spec.layer
  rw [added_apply]
  simp only [requanted_apply, weighted_apply, e]
  rfl

/-- The positive part. -/
def positive (x : FVec Ideal S8192x4096 .f32) : FVec Ideal S8192x4096 .f32 :=
  maximumf x (broadcast S8192x4096 (FloatOps.ofBits .f32 0x00000000#32))

theorem positive_apply (x : FVec Ideal S8192x4096 .f32) (r : Fin 8192) (l : Fin 4096) :
    positive x (ix2 r l) = Cert.Spec.relu (row x r) l := by
  pointwise [positive]
  rfl

end Cert.ReferenceIdeal.Parts

end

end
-- ==== Proof.Ref.lean ====
/- The reference's result, one place at a time. -/
module

public import proofs.«01_k».proof.Proof.Gen.ReferenceIdeal.Value
public import proofs.«01_k».proof.Proof.RefParts

@[expose] public section

noncomputable section

namespace Cert.ReferenceIdeal.Whole

open Idealize.ShloMosaic Cert.ReferenceIdeal Cert.ReferenceIdeal.Gen Cert.ReferenceIdeal.Parts

/-- The first payload is the first layer of the positive part. -/
theorem pay1_eq (x : FVec Ideal S8192x4096 .f32) (n : FVec Ideal S4096 .f32) (w : FVec Ideal S4096x4096 .f32) (s : FVec Ideal S32x32 .f32) :
    k0_pay1 (F := Ideal) x n w s = layered (positive x) n w s := by
  delta k0_pay1 layered added requanted requantBy scales scaleOf mags split normed meanSq weighted positive
  rfl

/-- The second payload is the second layer. -/
theorem pay2_eq (x : FVec Ideal S8192x4096 .f32) (n : FVec Ideal S4096 .f32) (w : FVec Ideal S4096x4096 .f32) (s : FVec Ideal S32x32 .f32) :
    k0_pay2 (F := Ideal) x n w s = layered x n w s := by
  delta k0_pay2 layered added requanted requantBy scales scaleOf mags split normed meanSq weighted
  rfl

/-- The third payload is the mean square of the second layer. -/
theorem pay3_eq (x : FVec Ideal S8192x4096 .f32) (n : FVec Ideal S4096 .f32) (w : FVec Ideal S4096x4096 .f32) (s : FVec Ideal S32x32 .f32) :
    k0_pay3 (F := Ideal) x n w s = meanSq (layered x n w s) := by
  rw [← pay2_eq]
  delta k0_pay3 meanSq
  rfl

/-- The last payload is the third layer, normalised. -/
theorem pay4_eq (x : FVec Ideal S8192x4096 .f32) (n : FVec Ideal S4096 .f32) (w : FVec Ideal S4096x4096 .f32) (s : FVec Ideal S32x32 .f32)
    (n' : FVec Ideal S4096 .f32) :
    k0_pay4 (F := Ideal) x n (meanSq x) (Scalar.ofBits .f32 0x358637BD#32) w s n' = normed (layered x n w s) n' := by
  delta k0_pay4 layered added requanted requantBy scales scaleOf mags split normed meanSq weighted
  rfl

/-- The result: three layers of the positive part, normalised. -/
def result (x : FVec Ideal S8192x4096 .f32) (w0 w1 w2 : FVec Ideal S4096x4096 .f32) (s0 s1 s2 : FVec Ideal S32x32 .f32)
    (n0 n1 n2 n3 : FVec Ideal S4096 .f32) : FVec Ideal S8192x4096 .f32 :=
  normed (layered (layered (layered (positive x) n0 w0 s0) n1 w1 s1) n2 w2 s2) n3

/-- The named first-layer value is the first layer. -/
theorem pay5_eq (x : FVec Ideal S8192x4096 .f32) (w0 w1 w2 : FVec Ideal S4096x4096 .f32) (s0 s1 s2 : FVec Ideal S32x32 .f32)
    (n0 n1 n2 n3 : FVec Ideal S4096 .f32) :
    k0_pay5 (F := Ideal) x w0 w1 w2 s0 s1 s2 n0 n1 n2 n3 = layered (positive x) n0 w0 s0 := by
  have hz : (![0, 0] : Fin 2 → Nat) = fun _ => 0 := funext fun a => by fin_cases a <;> rfl
  have hz1 : (![0] : Fin 1 → Nat) = fun _ => 0 := funext fun a => by fin_cases a; rfl
  unfold k0_pay5
  have ex : View.ld (Val := Elt Ideal) (e' := .f32) x r0_0 = x := View.ld_unit_zero (S := S8192x4096) (Val := Elt Ideal) (e := .f32) hz _ x
  have en : View.ld (Val := Elt Ideal) (e' := .f32) n0 r0_1 = n0 := View.ld_unit_zero (S := S4096) (Val := Elt Ideal) (e := .f32) hz1 _ n0
  have ew : View.ld (Val := Elt Ideal) (e' := .f32) w0 r0_2 = w0 := View.ld_unit_zero (S := S4096x4096) (Val := Elt Ideal) (e := .f32) hz _ w0
  have es : View.ld (Val := Elt Ideal) (e' := .f32) s0 r0_3 = s0 := View.ld_unit_zero (S := S32x32) (Val := Elt Ideal) (e := .f32) hz _ s0
  rw [ex, en, ew, es]
  exact pay1_eq _ _ _ _

/-- What the run leaves is the result. -/
theorem value_eq (x : FVec Ideal S8192x4096 .f32) (w0 w1 w2 : FVec Ideal S4096x4096 .f32) (s0 s1 s2 : FVec Ideal S32x32 .f32)
    (n0 n1 n2 n3 : FVec Ideal S4096 .f32) :
    Value.G11 (F := Ideal) x w0 w1 w2 s0 s1 s2 n0 n1 n2 n3 = result x w0 w1 w2 s0 s1 s2 n0 n1 n2 n3 := by
  show k0_pay4 (F := Ideal) (k0_pay2 (k0_pay5 x w0 w1 w2 s0 s1 s2 n0 n1 n2 n3) n1 w1 s1) n2
    (k0_pay3 (k0_pay5 x w0 w1 w2 s0 s1 s2 n0 n1 n2 n3) n1 w1 s1) (Scalar.ofBits .f32 0x358637BD#32) w2 s2 n3 = _
  rw [pay5_eq, pay2_eq, pay3_eq, pay4_eq]
  rfl

/-- With norm weights of one, row `r` of the result is the three layers of row `r`'s positive part, normalised. -/
theorem result_apply (x : FVec Ideal S8192x4096 .f32) (w0 w1 w2 : FVec Ideal S4096x4096 .f32) (s0 s1 s2 : FVec Ideal S32x32 .f32)
    (n0 n1 n2 n3 : FVec Ideal S4096 .f32) (h0 : ∀ l, n0 (ix1 l) = 1) (h1 : ∀ l, n1 (ix1 l) = 1) (h2 : ∀ l, n2 (ix1 l) = 1)
    (h3 : ∀ l, n3 (ix1 l) = 1) (r : Fin 8192) (l : Fin 4096) :
    result x w0 w1 w2 s0 s1 s2 n0 n1 n2 n3 (ix2 r l)
      = Cert.Spec.norm (Cert.Spec.layer (Cert.Spec.layer (Cert.Spec.layer (Cert.Spec.relu fun c => x (ix2 r c))
          (Cert.Spec.weight (fun k c => w0 (ix2 k c)) fun g h => s0 (ix2 g h)))
          (Cert.Spec.weight (fun k c => w1 (ix2 k c)) fun g h => s1 (ix2 g h)))
          (Cert.Spec.weight (fun k c => w2 (ix2 k c)) fun g h => s2 (ix2 g h))) l := by
  have e0 : row (positive x) r = Cert.Spec.relu (row x r) := funext fun c => positive_apply x r c
  have e1 := funext fun c => layered_apply (positive x) n0 h0 w0 s0 r c
  have e2 := funext fun c => layered_apply (layered (positive x) n0 w0 s0) n1 h1 w1 s1 r c
  have e3 := funext fun c => layered_apply (layered (layered (positive x) n0 w0 s0) n1 w1 s1) n2 h2 w2 s2 r c
  unfold result
  rw [normed_apply _ _ h3]
  unfold row at e0 e1 e2 e3 ⊢
  rw [e3, e2, e1, e0]

end Cert.ReferenceIdeal.Whole

end

end
-- ==== Proof.Equal.lean ====
/- The two results are one array. -/
module

public import proofs.«01_k».proof.Proof.Chain
public import proofs.«01_k».proof.Proof.Ref

@[expose] public section

noncomputable section

namespace Cert.Equal

open Idealize.ShloMosaic

/-- Row `r` of the kernel's result is the three layers of row `r`'s positive part, normalised. -/
theorem kernel_apply (x : FVec Ideal KernelIdeal.S8192x4096 .f32) (w0 w1 w2 : FVec Ideal KernelIdeal.S4096x4096 .f32)
    (s0 s1 s2 : FVec Ideal KernelIdeal.S32x32 .f32) (r : Fin 8192) (l : Fin 4096) :
    KernelIdeal.Chain.result x w0 w1 w2 s0 s1 s2 (ix2 r l)
      = Cert.Spec.norm (Cert.Spec.layer (Cert.Spec.layer (Cert.Spec.layer (Cert.Spec.relu fun c => x (ix2 r c))
          (Cert.Spec.weight (fun k c => w0 (ix2 k c)) fun g h => s0 (ix2 g h)))
          (Cert.Spec.weight (fun k c => w1 (ix2 k c)) fun g h => s1 (ix2 g h)))
          (Cert.Spec.weight (fun k c => w2 (ix2 k c)) fun g h => s2 (ix2 g h))) l := by
  unfold KernelIdeal.Chain.result KernelIdeal.Whole.norms KernelIdeal.Whole.layers KernelIdeal.Whole.pos KernelIdeal.Whole.row
    KernelIdeal.Launched.weights
  rfl

/-- With norm weights of one, the kernel's result is the reference's. -/
theorem results_eq (x : FVec Ideal KernelIdeal.S8192x4096 .f32) (w0 w1 w2 : FVec Ideal KernelIdeal.S4096x4096 .f32)
    (s0 s1 s2 : FVec Ideal KernelIdeal.S32x32 .f32) (n0 n1 n2 n3 : FVec Ideal ReferenceIdeal.S4096 .f32)
    (h0 : ∀ l, n0 (ix1 l) = 1) (h1 : ∀ l, n1 (ix1 l) = 1) (h2 : ∀ l, n2 (ix1 l) = 1) (h3 : ∀ l, n3 (ix1 l) = 1) :
    ReferenceIdeal.Value.G11 (F := Ideal) x w0 w1 w2 s0 s1 s2 n0 n1 n2 n3 = KernelIdeal.Chain.result x w0 w1 w2 s0 s1 s2 := by
  rw [ReferenceIdeal.Whole.value_eq]
  funext i
  obtain ⟨r, l, rfl⟩ : ∃ (r : Fin 8192) (l : Fin 4096), i = ix2 r l := ⟨i 0, i 1, eq_ix2 i⟩
  exact (ReferenceIdeal.Whole.result_apply x w0 w1 w2 s0 s1 s2 n0 n1 n2 n3 h0 h1 h2 h3 r l).trans (kernel_apply x w0 w1 w2 s0 s1 s2 r l).symm

end Cert.Equal

end

end
-- ==== Proof.Pre.lean ====
/- What the precondition says: every norm weight is one. -/
module

public import Idealize.ShloMosaic.Lib.Pointwise
public import Idealize.ShloMosaic.Lib.IdealHost
public import proofs.«01_k».proof.Pre_norm_weights_are_one

@[expose] public section

noncomputable section

namespace Cert.Pre_norm_weights_are_one

open Idealize.ShloMosaic

/-- The one shape relation the precondition takes. -/
theorem facts : Facts where
  bcast_S_S4096 := by decide

/-- A comparison with one that answers yes everywhere has ones everywhere. -/
theorem ones (hb : S_.BroadcastsInDim S4096 (![] : Fin 0 → Fin S4096.rank)) (n : FVec Ideal S4096 .f32)
    (h : cmpf .oeq n (broadcastInDim S4096 ![] hb (constant S_ .f32 0x3F800000#32)) = fun _ => 1#1) (l : Fin 4096) : n (ix1 l) = 1 := by
  have h1 : BitVec.ofBool (decide (n (ix1 l) = Ideal.ofBits .f32 0x3F800000#32)) = 1#1 := congrFun h (ix1 l)
  rw [Ideal.ofBits_one_f32] at h1
  by_contra hne
  rw [decide_eq_false hne] at h1
  exact absurd h1 (by decide)

end Cert.Pre_norm_weights_are_one

end

end
-- ==== Proof.Run.lean ====
/- The kernel's run from launch to end, with its result array named. -/
module

public import proofs.«01_k».proof.Proof.Chain

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The resources the run is stated over. -/
abbrev Mach := MT nD τ sig Unit (Elt Ideal) ℕ (UR sig nD τ) ℕ

variable (m : (ℓ : Loc nD τ sig) → Buf (Elt Ideal) ℓ) (ρ : Dev nD → PrngReg)

-- the launch lemma's implicit arguments are found by unifying its conclusion with this one
set_option backward.isDefEq.respectTransparency.types false in
/-- Every run from zeroed counters ends with the result array at `result` of the arguments as launched and with the
    arguments unchanged. -/
theorem run : θ_run defs (onTc (τ := τ) (main (F := Ideal))) ⟨m, fun _ => 0, ρ⟩ (fun r => ∀ c : Dev nD,
      r.2.mem ((c.tc : Thread nD τ).loc main_v17) = Chain.result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Mach)
            ⊢ BI.own (emb₁ (initOf (Pipeline.cells cfgs cellOf_inj) (Pipeline.launchToks cfgs cellOf_inj))) from .rfl)
        iexact Hu
      iapply (show (BI.emp : sProp Mach) ⊢ bigSep Finset.univ (fun _ : Dev nD => (BI.emp : sProp Mach)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ c =>
      ⟨(h c _ (mem_uc main_v17 (by decide))).trans (Chain.stage5 m ρ c),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.KernelIdeal.Run

end

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.ReferenceIdeal.Value
public import proofs.«01_k».proof.Proof.Gen.Kernel
public import proofs.«01_k».proof.Proof.Gen.KernelIdeal
public import proofs.«01_k».proof.Proof.Gen.ReferenceIdeal
public import proofs.«01_k».proof.Proof.Equal
public import proofs.«01_k».proof.Proof.Pre
public import proofs.«01_k».proof.Proof.Run
public import Idealize.ShloMosaic.Adequacy
public import Idealize.ShloMosaic.Init

@[expose] public section

noncomputable section

namespace Cert.Proof

open Idealize.ShloMosaic Idealize.SL.Sem

/-- From memories that agree on the arguments, the norm weights all one, the kernel and the reference end with equal results. -/
theorem same : Cert.algebraic_KernelIdeal_ReferenceIdeal_pre_norm_weights_are_one (hKernelIdeal := KernelIdeal.Gen.facts)
    (hReferenceIdeal := ReferenceIdeal.Gen.facts) (hPre_norm_weights_are_one := Pre_norm_weights_are_one.facts) := by
  intro m g m' g' hpre hagree
  refine ⟨fun c => KernelIdeal.Chain.result (m ((c.tc : Thread KernelIdeal.nD KernelIdeal.τ).loc KernelIdeal.main_arg0))
    (m ((c.tc : Thread KernelIdeal.nD KernelIdeal.τ).loc KernelIdeal.main_arg1))
    (m ((c.tc : Thread KernelIdeal.nD KernelIdeal.τ).loc KernelIdeal.main_arg2))
    (m ((c.tc : Thread KernelIdeal.nD KernelIdeal.τ).loc KernelIdeal.main_arg3))
    (m ((c.tc : Thread KernelIdeal.nD KernelIdeal.τ).loc KernelIdeal.main_arg4))
    (m ((c.tc : Thread KernelIdeal.nD KernelIdeal.τ).loc KernelIdeal.main_arg5))
    (m ((c.tc : Thread KernelIdeal.nD KernelIdeal.τ).loc KernelIdeal.main_arg6)), KernelIdeal.Run.run m g, ?_⟩
  refine (θ_run ReferenceIdeal.defs _ _).mono (fun r h c => ⟨(h c).1.trans ?_, (h c).2⟩) (ReferenceIdeal.Value.run m' g')
  obtain ⟨a0, a1, a2, a3, a4, a5, a6, a7, a8, a9, a10⟩ := hagree c
  obtain ⟨p0, p1, p2, p3⟩ := hpre c
  rw [a0, a1, a2, a3, a4, a5, a6, a7, a8, a9, a10]
  exact Cert.Equal.results_eq _ _ _ _ _ _ _ _ _ _ _ (Pre_norm_weights_are_one.ones _ _ p0) (Pre_norm_weights_are_one.ones _ _ p1)
    (Pre_norm_weights_are_one.ones _ _ p2) (Pre_norm_weights_are_one.ones _ _ p3)

/-- All five claims: both kernel programs and the reference run to the end and leave their arguments, the one constant read
    by name stands for its printed value, and the results are equal. -/
theorem claim : Cert.Claim :=
  ⟨Kernel.Gen.facts, KernelIdeal.Gen.facts, ReferenceIdeal.Gen.facts, Pre_norm_weights_are_one.facts,
    fun m ρ _ => Kernel.Gen.frame m ρ, fun m ρ _ => KernelIdeal.Gen.frame m ρ, fun m ρ _ => KernelIdeal.Gen.frame m ρ,
    fun m ρ _ => ReferenceIdeal.Gen.frame m ρ, fun m ρ _ => ReferenceIdeal.Gen.frame m ρ,
    IdealRules.named_const.statement Cert.KernelIdeal.κ "inv_fp8_max" .f32 0x3B124925#32 ((1 / 448 : ℝ) : EReal) rfl,
    same⟩

end Cert.Proof

end
